-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal [hPre_normal : Cert.Pre_normal.Facts] (m : (ℓ : Loc Cert.KernelIdeal.nD Cert.KernelIdeal.τ Cert.KernelIdeal.sig) → Buf (Elt Ideal) ℓ) : Prop :=
  ∀ c : Dev Cert.KernelIdeal.nD,
    (Cert.Pre_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal [hPre_normal : Cert.Pre_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_normal [hKernelIdeal : Cert.KernelIdeal.Facts] [hPre_normal : Cert.Pre_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_normal [hReferenceIdeal : Cert.ReferenceIdeal.Facts] [hPre_normal : Cert.Pre_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_normal [hKernelIdeal : Cert.KernelIdeal.Facts] [hReferenceIdeal : Cert.ReferenceIdeal.Facts] [hPre_normal : Cert.Pre_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_normal : Cert.Pre_normal.Facts),
    quiescent_Kernel (hKernel := hKernel)
    ∧ quiescent_KernelIdeal (hKernelIdeal := hKernelIdeal)
    ∧ quiescent_KernelIdeal_pre_normal (hKernelIdeal := hKernelIdeal) (hPre_normal := hPre_normal)
    ∧ quiescent_ReferenceIdeal (hReferenceIdeal := hReferenceIdeal)
    ∧ quiescent_ReferenceIdeal_pre_normal (hReferenceIdeal := hReferenceIdeal) (hPre_normal := hPre_normal)
    ∧ preserves_Kernel_KernelIdeal
    ∧ algebraic_KernelIdeal_ReferenceIdeal_pre_normal (hKernelIdeal := hKernelIdeal) (hReferenceIdeal := hReferenceIdeal) (hPre_normal := hPre_normal)
-- ==== Pre_normal.lean ====
abbrev S1x3072x4096 : Shape := ⟨3, ![1, 3072, 4096]⟩
abbrev S4096x256 : Shape := ⟨2, ![4096, 256]⟩
abbrev S256x512 : Shape := ⟨2, ![256, 512]⟩
abbrev S_ : Shape := ⟨0, ![]⟩
abbrev S1x3072 : Shape := ⟨2, ![1, 3072]⟩

class Facts : Prop where
  bitsLt_bf16_f32 : FTy.bits .bf16 < FTy.bits .f32
  reducesTo_S1x3072x4096_S1x3072_d2 : S1x3072x4096.ReducesTo [2] S1x3072
  h_S_ : 0 < S_.numel
  bcast_S_S1x3072 : S_.BroadcastsInDim S1x3072 (![] : Fin 0 → Fin S1x3072.rank)

variable [Facts]

def fn {F : FTy → Type} [FloatOps F] (main_arg0 : FVec F S1x3072x4096 .bf16) (main_arg1 : IVec S4096x256 8) (main_arg2 : FVec F S256x512 .fp8e4m3) (main_arg3 : FVec F S_ .f32) : IVec S1x3072 1 :=
  let main_v0 : FVec F S1x3072x4096 .f32 := (extf .f32 · bitsLt_bf16_f32) main_arg0
  let main_v1 : FVec F S1x3072x4096 .f32 := Host.absf main_v0
  let main_cst : FVec F S_ .f32 := constant S_ .f32 0xFF800000#32
  let main_v2 : FVec F S1x3072 .f32 := (fun x v => Host.reduce FloatOps.maximumf x v reducesTo_S1x3072x4096_S1x3072_d2 h_S_) main_v1 main_cst
  let main_cst_0 : FVec F S_ .f32 := constant S_ .f32 0x3B124925#32
  let main_v3 : FVec F S1x3072 .f32 := broadcastInDim S1x3072 ![] bcast_S_S1x3072 main_cst_0
  let main_v4 : FVec F S1x3072 .f32 := mulf main_v2 main_v3
  let main_cst_1 : FVec F S_ .f32 := constant S_ .f32 0x00000000#32
  let main_v5 : FVec F S1x3072 .f32 := broadcastInDim S1x3072 ![] bcast_S_S1x3072 main_cst_1
  let main_v6 : IVec S1x3072 1 := cmpf .oeq main_v4 main_v5
  let main_cst_2 : FVec F S_ .f32 := constant S_ .f32 0x00800000#32
  let main_v7 : FVec F S1x3072 .f32 := broadcastInDim S1x3072 ![] bcast_S_S1x3072 main_cst_2
  let main_v8 : IVec S1x3072 1 := cmpf .oge main_v4 main_v7
  let main_cst_3 : FVec F S_ .f32 := constant S_ .f32 0x7E800000#32
  let main_v9 : FVec F S1x3072 .f32 := broadcastInDim S1x3072 ![] bcast_S_S1x3072 main_cst_3
  let main_v10 : IVec S1x3072 1 := cmpf .olt main_v4 main_v9
  let main_v11 : IVec S1x3072 1 := andi main_v8 main_v10
  let main_v12 : IVec S1x3072 1 := ori main_v6 main_v11
  main_v12
-- ==== Kernel.lean ====
abbrev S1x3072x4096 : Shape := ⟨3, ![1, 3072, 4096]⟩
abbrev S4096x256 : Shape := ⟨2, ![4096, 256]⟩
abbrev S256x512 : Shape := ⟨2, ![256, 512]⟩
abbrev S_ : Shape := ⟨0, ![]⟩
abbrev S1x1 : Shape := ⟨2, ![1, 1]⟩
abbrev S1x3072x512 : Shape := ⟨3, ![1, 3072, 512]⟩
abbrev S1x3072 : Shape := ⟨2, ![1, 3072]⟩
abbrev S1x256x4096 : Shape := ⟨3, ![1, 256, 4096]⟩
abbrev S1x256x512 : Shape := ⟨3, ![1, 256, 512]⟩
abbrev S1x256 : Shape := ⟨2, ![1, 256]⟩
abbrev S4096x512 : Shape := ⟨2, ![4096, 512]⟩
abbrev S1024x256 : Shape := ⟨2, ![1024, 256]⟩
abbrev S256x256 : Shape := ⟨2, ![256, 256]⟩
abbrev S256x16x256 : Shape := ⟨3, ![256, 16, 256]⟩
abbrev S256x1x256 : Shape := ⟨3, ![256, 1, 256]⟩
abbrev S256x4096 : Shape := ⟨2, ![256, 4096]⟩
abbrev S256 : Shape := ⟨1, ![256]⟩
abbrev S256x1 : Shape := ⟨2, ![256, 1]⟩
abbrev S128x128 : Shape := ⟨2, ![128, 128]⟩
abbrev S128x1 : Shape := ⟨2, ![128, 1]⟩
abbrev S128 : Shape := ⟨1, ![128]⟩
abbrev S1x128 : Shape := ⟨2, ![1, 128]⟩

abbrev nBuf : Space → Nat
  | .hbm => 8
  | .vmem => 11
  | .smem => 1
  | _ => 0

abbrev bufTy : (tb : Table) → Fin (tcTables nBuf tb) → BufTy
  | .hbm, ⟨0, _⟩ => ⟨S1x3072x4096, .bf16⟩
  | .hbm, ⟨1, _⟩ => ⟨S4096x256, .i8⟩
  | .hbm, ⟨2, _⟩ => ⟨S256x512, .fp8e4m3⟩
  | .hbm, ⟨3, _⟩ => ⟨S_, .f32⟩
  | .hbm, ⟨4, _⟩ => ⟨S1x1, .f32⟩
  | .hbm, ⟨5, _⟩ => ⟨S1x3072x512, .bf16⟩
  | .hbm, ⟨6, _⟩ => ⟨S1x3072x4096, .fp8e4m3⟩
  | .hbm, ⟨7, _⟩ => ⟨S1x3072, .f32⟩
  | .local _ .vmem, ⟨0, _⟩ => ⟨S1x256x4096, .bf16⟩
  | .local _ .vmem, ⟨1, _⟩ => ⟨S1x256x4096, .bf16⟩
  | .local _ .vmem, ⟨2, _⟩ => ⟨S4096x256, .i8⟩
  | .local _ .vmem, ⟨3, _⟩ => ⟨S256x512, .fp8e4m3⟩
  | .local _ .vmem, ⟨4, _⟩ => ⟨S1x256x512, .bf16⟩
  | .local _ .vmem, ⟨5, _⟩ => ⟨S1x256x512, .bf16⟩
  | .local _ .vmem, ⟨6, _⟩ => ⟨S1x256x4096, .fp8e4m3⟩
  | .local _ .vmem, ⟨7, _⟩ => ⟨S1x256x4096, .fp8e4m3⟩
  | .local _ .vmem, ⟨8, _⟩ => ⟨S1x256, .f32⟩
  | .local _ .vmem, ⟨9, _⟩ => ⟨S1x256, .f32⟩
  | .local _ .vmem, ⟨10, _⟩ => ⟨S4096x512, .bf16⟩
  | .local _ .smem, ⟨0, _⟩ => ⟨S1x1, .f32⟩
  | _, _ => ⟨S1x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x3072x4096 : Shape := ⟨3, ![1, 3072, 4096]⟩
abbrev S4096x256 : Shape := ⟨2, ![4096, 256]⟩
abbrev S256x512 : Shape := ⟨2, ![256, 512]⟩
abbrev S_ : Shape := ⟨0, ![]⟩
abbrev S1x1 : Shape := ⟨2, ![1, 1]⟩
abbrev S1x3072x512 : Shape := ⟨3, ![1, 3072, 512]⟩
abbrev S1x3072 : Shape := ⟨2, ![1, 3072]⟩
abbrev S3072x4096 : Shape := ⟨2, ![3072, 4096]⟩
abbrev S3072 : Shape := ⟨1, ![3072]⟩
abbrev S3072x1 : Shape := ⟨2, ![3072, 1]⟩
abbrev S4096x512 : Shape := ⟨2, ![4096, 512]⟩
abbrev S256x16x512 : Shape := ⟨3, ![256, 16, 512]⟩
abbrev S256x1x512 : Shape := ⟨3, ![256, 1, 512]⟩
abbrev S3072x512 : Shape := ⟨2, ![3072, 512]⟩

abbrev nBuf : Space → Nat
  | .hbm => 8
  | .vmem => 6
  | .smem => 1
  | _ => 0

abbrev bufTy : (tb : Table) → Fin (tcTables nBuf tb) → BufTy
  | .hbm, ⟨0, _⟩ => ⟨S1x3072x4096, .bf16⟩
  | .hbm, ⟨1, _⟩ => ⟨S4096x256, .i8⟩
  | .hbm, ⟨2, _⟩ => ⟨S256x512, .fp8e4m3⟩
  | .hbm, ⟨3, _⟩ => ⟨S_, .f32⟩
  | .hbm, ⟨4, _⟩ => ⟨S1x1, .f32⟩
  | .hbm, ⟨5, _⟩ => ⟨S1x3072x512, .bf16⟩
  | .hbm, ⟨6, _⟩ => ⟨S1x3072x4096, .fp8e4m3⟩
  | .hbm, ⟨7, _⟩ => ⟨S1x3072, .f32⟩
  | .local _ .vmem, ⟨0, _⟩ => ⟨S1x3072x4096, .bf16⟩
  | .local _ .vmem, ⟨1, _⟩ => ⟨S4096x256, .i8⟩
  | .local _ .vmem, ⟨2, _⟩ => ⟨S256x512, .fp8e4m3⟩
  | .local _ .vmem, ⟨3, _⟩ => ⟨S1x3072x512, .bf16⟩
  | .local _ .vmem, ⟨4, _⟩ => ⟨S1x3072x4096, .fp8e4m3⟩
  | .local _ .vmem, ⟨5, _⟩ => ⟨S1x3072, .f32⟩
  | .local _ .smem, ⟨0, _⟩ => ⟨S1x1, .f32⟩
  | _, _ => ⟨S1x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3072x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Exponent.lean ====
/-
  The power-of-two scale of one row, as the kernel and the reference compute it.

  The kernel finds the biased exponent of a non-negative `t` by a binary search over the numbers whose f32 pattern has
  exponent field `n` and no fraction; the reference takes `⌊log t / log 2⌋ + 1`. On zero and on the normal numbers below
  `2^126` both scales, and both reciprocal scales, are the same power of two.
-/
module

public import Idealize.ShloMosaic.Lib.Pointwise

@[expose] public section

noncomputable section

namespace Cert.Lin

open Idealize.ShloMosaic

/-- The number whose f32 pattern is `n` shifted left by 23 bits. -/
def val (n : BitVec 32) : EReal := Ideal.ofBits .f32 (IntOp.shli .vector n 23#32)

/-- One step of the search: add the bit `b` to `n` if the number so named is still at most `t`. -/
def step (t : EReal) (b n : BitVec 32) : BitVec 32 :=
  Scalar.select (Ideal.cmp .oge t (val (IntOp.addi n b))) (IntOp.addi n b) n

/-- The first four steps. -/
def srchHi (t : EReal) : BitVec 32 := step t 16#32 (step t 32#32 (step t 64#32 (step t 128#32 0#32)))

/-- All eight steps, from the result of the first four. -/
def srchLo (t : EReal) (n : BitVec 32) : BitVec 32 := step t 1#32 (step t 2#32 (step t 4#32 (step t 8#32 n)))

/-- The exponent from the biased exponent: zero stays zero, else minus 126. -/
def expo (n : BitVec 32) : BitVec 32 := Scalar.select (IntOp.cmpi .sgt n 0#32) (IntOp.subi n 126#32) 0#32

/-- The kernel's scale of a row with `t`. -/
def kscale (t : EReal) : EReal := val (IntOp.addi (expo (srchLo t (srchHi t))) 127#32)

/-- The kernel's reciprocal scale of a row with `t`. -/
def kinv (t : EReal) : EReal := val (IntOp.subi 127#32 (expo (srchLo t (srchHi t))))

/-- The reference's exponent of a row with absolute maximum `a` and `t`. -/
def rexp (a t : EReal) : EReal :=
  Scalar.select (Ideal.cmp .ogt a 0) (Ideal.liftRound Int.floor (Ideal.div (Ideal.log t) ((Real.log 2 : ℝ) : EReal)) + 1) 0

/-! ## The numbers searched -/

/-- The pattern `n << 23` has sign bit zero, exponent field `n` and fraction zero, for each `n` below 256. -/
theorem bits_val : ∀ n : Fin 256, (BitVec.extractLsb' (8 + 23) 1 (IntOp.shli .vector (BitVec.ofNat 32 n.val) 23#32) == 1#1) = false
    ∧ (BitVec.extractLsb' 23 8 (IntOp.shli .vector (BitVec.ofNat 32 n.val) 23#32)).toNat = n.val
    ∧ (BitVec.extractLsb' 0 23 (IntOp.shli .vector (BitVec.ofNat 32 n.val) 23#32)).toNat = 0 := by
  decide +kernel

/-- Exponent field zero: the number 0. -/
theorem val_zero : val 0#32 = 0 := by
  obtain ⟨h1, h2, h3⟩ := bits_val 0
  simp only [Fin.val_zero] at h1 h2 h3
  simp only [val, Ideal.ofBits, Ideal.ieee, h1, h2, h3]
  rw [if_neg (by decide), if_pos trivial]
  simp

/-- Exponent field 255: the infinity. -/
theorem val_top : val (BitVec.ofNat 32 255) = ⊤ := by
  obtain ⟨h1, h2, h3⟩ := bits_val 255
  have e : ((255 : Fin 256) : ℕ) = 255 := rfl
  rw [e] at h1 h2 h3
  simp only [val, Ideal.ofBits, Ideal.ieee, h1, h2, h3]
  rw [if_pos (by decide), if_pos trivial]
  rfl

/-- Any other exponent field `n`: the number `2 ^ (n - 127)`. -/
theorem val_pow (n : ℕ) (h0 : 1 ≤ n) (h1 : n ≤ 254) : val (BitVec.ofNat 32 n) = (((2 : ℝ) ^ ((n : ℤ) - 127) : ℝ) : EReal) := by
  obtain ⟨g1, g2, g3⟩ := bits_val ⟨n, by omega⟩
  dsimp only at g1 g2 g3
  simp only [val, Ideal.ofBits, Ideal.ieee, g1, g2, g3]
  rw [if_neg (by omega), if_neg (by omega)]
  rw [EReal.coe_eq_coe_iff]
  have e : (n : ℤ) - (2 ^ (8 - 1) - 1) - ((23 : ℕ) : ℤ) = ((n : ℤ) - 127) + (-23) := by norm_num; ring
  rw [e, zpow_add₀ two_ne_zero]
  norm_num
  ring

/-! ## The search -/

/-- A step, where the numbers at most `t` are those of exponent field up to `N`. -/
theorem step_eq (t : EReal) (N : ℕ) (hN : ∀ m : ℕ, m ≤ 255 → (val (BitVec.ofNat 32 m) ≤ t ↔ m ≤ N)) (b n : ℕ) (h : n + b ≤ 255) :
    step t (BitVec.ofNat 32 b) (BitVec.ofNat 32 n) = BitVec.ofNat 32 (if n + b ≤ N then n + b else n) := by
  have e : IntOp.addi (BitVec.ofNat 32 n) (BitVec.ofNat 32 b) = BitVec.ofNat 32 (n + b) := by
    simp [IntOp.addi, BitVec.ofNat_add]
  unfold step
  rw [e]
  by_cases hc : n + b ≤ N
  · rw [if_pos hc]
    have : Ideal.cmp .oge t (val (BitVec.ofNat 32 (n + b))) = 1 := by
      simp only [Ideal.cmp, (hN _ h).mpr hc, decide_true]; rfl
    rw [this]; rfl
  · rw [if_neg hc]
    have : Ideal.cmp .oge t (val (BitVec.ofNat 32 (n + b))) = 0 := by
      simp only [Ideal.cmp, mt (hN _ h).mp hc, decide_false]; rfl
    rw [this]; rfl

/-- One step over the naturals. -/
def nstep (N b n : ℕ) : ℕ := if n + b ≤ N then n + b else n

/-- A step of the search adds at most its bit. -/
theorem nstep_le (N b n : ℕ) : nstep N b n ≤ n + b := by unfold nstep; split <;> omega

/-- The eight steps over the naturals find `N`. -/
theorem nsearch : ∀ N : Fin 256, nstep N 1 (nstep N 2 (nstep N 4 (nstep N 8 (nstep N 16 (nstep N 32 (nstep N 64 (nstep N 128 0))))))) = N := by
  decide +kernel

/-- The search finds the largest exponent field whose number is at most `t`. -/
theorem search_eq (t : EReal) (N : ℕ) (hN255 : N ≤ 255) (hN : ∀ m : ℕ, m ≤ 255 → (val (BitVec.ofNat 32 m) ≤ t ↔ m ≤ N)) :
    srchLo t (srchHi t) = BitVec.ofNat 32 N := by
  have S := step_eq t N hN
  have a1 := nstep_le N 128 0
  have a2 := nstep_le N 64 (nstep N 128 0)
  have a3 := nstep_le N 32 (nstep N 64 (nstep N 128 0))
  have a4 := nstep_le N 16 (nstep N 32 (nstep N 64 (nstep N 128 0)))
  have a5 := nstep_le N 8 (nstep N 16 (nstep N 32 (nstep N 64 (nstep N 128 0))))
  have a6 := nstep_le N 4 (nstep N 8 (nstep N 16 (nstep N 32 (nstep N 64 (nstep N 128 0)))))
  have a7 := nstep_le N 2 (nstep N 4 (nstep N 8 (nstep N 16 (nstep N 32 (nstep N 64 (nstep N 128 0))))))
  have R : ∀ b n : ℕ, n + b ≤ 255 → step t (BitVec.ofNat 32 b) (BitVec.ofNat 32 n) = BitVec.ofNat 32 (nstep N b n) := S
  unfold srchLo srchHi
  rw [R 128 0 (by omega), R 64 _ (by omega), R 32 _ (by omega), R 16 _ (by omega), R 8 _ (by omega), R 4 _ (by omega),
    R 2 _ (by omega), R 1 _ (by omega)]
  exact congrArg (BitVec.ofNat 32) (nsearch ⟨N, by omega⟩)

/-- The floor of the binary logarithm. -/
def lg (r : ℝ) : ℤ := ⌊Real.log r / Real.log 2⌋

/-- A power of two is at most `r` where its exponent is at most the floor of `r`'s binary logarithm. -/
theorem zpow_le_iff (r : ℝ) (hr : 0 < r) (m : ℤ) : (2 : ℝ) ^ m ≤ r ↔ m ≤ lg r := by
  have h2 : 0 < Real.log 2 := Real.log_pos (by norm_num)
  unfold lg
  rw [Int.le_floor, le_div_iff₀ h2, ← Real.log_zpow, Real.log_le_log_iff (by positivity) hr]

/-- Zero's exponent field is 0. -/
theorem search_zero : srchLo 0 (srchHi 0) = BitVec.ofNat 32 0 := by
  refine search_eq 0 0 (by omega) fun m hm => ?_
  rcases Nat.eq_zero_or_pos m with rfl | h
  · exact ⟨fun _ => le_refl _, fun _ => le_of_eq val_zero⟩
  · refine ⟨fun hv => ?_, fun h' => by omega⟩
    by_cases h255 : m = 255
    · subst h255; rw [val_top] at hv; exact absurd hv (by simp)
    · rw [val_pow m h (by omega)] at hv
      exact absurd (EReal.coe_le_coe_iff.mp hv) (not_le.mpr (by positivity))

/-- A normal number's exponent field is its binary logarithm's floor plus 127. -/
theorem search_pos (r : ℝ) (h0 : (2 : ℝ) ^ (-126 : ℤ) ≤ r) (h1 : r < (2 : ℝ) ^ (126 : ℤ)) :
    srchLo (r : EReal) (srchHi (r : EReal)) = BitVec.ofNat 32 (lg r + 127).toNat
      ∧ -126 ≤ lg r ∧ lg r < 126 := by
  have hr : 0 < r := lt_of_lt_of_le (by positivity) h0
  have hlo : -126 ≤ lg r := (zpow_le_iff r hr _).mp h0
  have hhi : lg r < 126 := not_le.mp (mt (zpow_le_iff r hr _).mpr (not_le.mpr h1))
  refine ⟨search_eq _ _ (by omega) fun m hm => ?_, hlo, hhi⟩
  rcases Nat.eq_zero_or_pos m with rfl | h
  · refine ⟨fun _ => Nat.zero_le _, fun _ => ?_⟩
    rw [val_zero]; exact_mod_cast hr.le
  · by_cases h255 : m = 255
    · subst h255
      rw [val_top]
      exact ⟨fun h => absurd h (by simp), fun h => by omega⟩
    · rw [val_pow m h (by omega), EReal.coe_le_coe_iff]
      rw [zpow_le_iff r hr]; omega

/-! ## The scales -/

/-- The exponent fields of the scale and of its reciprocal, for each exponent field of `t` below 253. -/
theorem expo_bits : ∀ N : Fin 253, IntOp.addi (expo (BitVec.ofNat 32 N.val)) 127#32 = BitVec.ofNat 32 (if N.val = 0 then 127 else N.val + 1)
    ∧ IntOp.subi 127#32 (expo (BitVec.ofNat 32 N.val)) = BitVec.ofNat 32 (if N.val = 0 then 127 else 253 - N.val) := by
  decide +kernel

/-- The power of two at an integer. -/
theorem exp2_int (k : ℤ) : Ideal.exp2 (((k : ℝ)) : EReal) = (((2 : ℝ) ^ k : ℝ) : EReal) := by
  rw [Ideal.exp2_coe]
  congr 1
  exact Real.rpow_intCast 2 k

/-- THE SCALES AGREE: where `t = a * c` for a positive real `c` and `t` is zero or normal below `2^126`, the kernel's scale and
    reciprocal are two to the reference's exponent and to minus it. -/
theorem scales_eq (a : EReal) (c : ℝ) (hc : 0 < c)
    (h : a * (c : EReal) = 0 ∨ ((((2 : ℝ) ^ (-126 : ℤ) : ℝ) : EReal) ≤ a * (c : EReal) ∧ a * (c : EReal) < (((2 : ℝ) ^ (126 : ℤ) : ℝ) : EReal))) :
    kscale (a * c) = Ideal.exp2 (rexp a (a * c)) ∧ kinv (a * c) = Ideal.exp2 (0 - rexp a (a * c)) := by
  have hc' : (c : EReal) ≠ 0 := by exact_mod_cast hc.ne'
  have one : (((2 : ℝ) ^ ((127 : ℕ) - 127 : ℤ) : ℝ) : EReal) = 1 := by norm_num
  rcases h with h | ⟨hl, hu⟩
  · have ha : a = 0 := by
      rcases mul_eq_zero.mp h with h | h
      · exact h
      · exact absurd h hc'
    have hr : rexp a (a * c) = 0 := by
      unfold rexp
      rw [ha]
      simp [Ideal.cmp, Scalar.select]
    rw [hr, h]
    obtain ⟨e1, e2⟩ := expo_bits 0
    have z : ((0 : Fin 253) : ℕ) = 0 := rfl
    rw [z] at e1 e2
    unfold kscale kinv
    rw [search_zero, e1, e2, if_pos rfl, val_pow 127 (by omega) (by omega)]
    have z0 : Ideal.exp2 (0 : EReal) = 1 := by
      have := exp2_int 0
      simpa using this
    rw [sub_zero, z0, one]
    exact ⟨rfl, by rw [if_pos rfl, val_pow 127 (by omega) (by omega), one]⟩
  · obtain ⟨r, hr⟩ : ∃ r : ℝ, a * (c : EReal) = (r : EReal) := by
      induction h : a * (c : EReal) using EReal.rec with
      | bot => rw [h] at hl; simp at hl
      | top => rw [h] at hu; simp at hu
      | coe r => exact ⟨r, rfl⟩
    rw [hr] at hl hu ⊢
    have hl' := EReal.coe_le_coe_iff.mp hl
    have hu' := EReal.coe_lt_coe_iff.mp hu
    obtain ⟨hs, h1, h2⟩ := search_pos r hl' hu'
    have hr0 : 0 < r := lt_of_lt_of_le (by positivity) hl'
    have ha : 0 < a := by
      by_contra hn
      have : a * (c : EReal) ≤ 0 := by
        have := mul_le_mul_of_nonneg_right (not_lt.mp hn) (show (0 : EReal) ≤ (c : EReal) by exact_mod_cast hc.le)
        simpa using this
      rw [hr] at this
      exact absurd (EReal.coe_le_coe_iff.mp (by simpa using this)) (not_le.mpr hr0)
    have he : rexp a (r : EReal) = ((((lg r + 1 : ℤ) : ℝ)) : EReal) := by
      unfold rexp
      have hc1 : Ideal.cmp .ogt a 0 = 1 := by simp only [Ideal.cmp, ha, decide_true]; rfl
      rw [hc1]
      show Ideal.liftRound Int.floor (Ideal.div (Ideal.log (r : EReal)) ((Real.log 2 : ℝ) : EReal)) + 1 = _
      have hlog2 : Real.log 2 ≠ 0 := (Real.log_pos (by norm_num)).ne'
      rw [Ideal.log_coe, if_neg (not_le.mpr hr0)]
      have hd : Ideal.div ((Real.log r : ℝ) : EReal) ((Real.log 2 : ℝ) : EReal) = ((Real.log r / Real.log 2 : ℝ) : EReal) := by
        unfold Ideal.div
        rw [if_neg (by exact_mod_cast hlog2), ← EReal.coe_inv, ← EReal.coe_mul]
        rfl
      rw [hd]
      show ((((⌊Real.log r / Real.log 2⌋ : ℤ) : ℝ)) : EReal) + 1 = _
      show (((lg r : ℤ) : ℝ) : EReal) + 1 = _
      push_cast
      rfl
    have hneg : (0 : EReal) - ((((lg r + 1 : ℤ) : ℝ)) : EReal) = ((((-(lg r + 1) : ℤ) : ℝ)) : EReal) := by
      rw [zero_sub, ← EReal.coe_neg]; push_cast; rfl
    rw [he, hneg, exp2_int, exp2_int]
    obtain ⟨e1, e2⟩ := expo_bits ⟨(lg r + 127).toNat, by omega⟩
    dsimp only at e1 e2
    have hN : (lg r + 127).toNat ≠ 0 := by omega
    rw [if_neg hN] at e1 e2
    unfold kscale kinv
    rw [hs, e1, e2, val_pow _ (by omega) (by omega), val_pow _ (by omega) (by omega)]
    refine ⟨?_, ?_⟩
    · congr 2; omega
    · congr 2; omega

end Cert.Lin

end
-- ==== Proof.Decode.lean ====
/-
  One 4-bit weight, as the kernel and the reference read it.

  The kernel turns each byte into two fp8 (e4m3) patterns, sign bit in place and the other three bits two places higher,
  whose numbers are 1/64 of the 4-bit weights'; the reference selects the weight from a nest of constants. The kernel
  works on words of four bytes; the masks keep every bit inside its byte.
-/
module

public import Idealize.ShloMosaic.Lib.Pointwise
public import Idealize.ShloMosaic.Lib.BitcastFour

@[expose] public section

noncomputable section

namespace Cert.Lin

open Idealize.ShloMosaic

/-- The fp8 pattern the kernel makes of a byte's low four bits. -/
def byteLo (b : BitVec 8) : BitVec 8 := ((b <<< 4) &&& 0x80#8) ||| ((b <<< 2) &&& 0x1C#8)

/-- The fp8 pattern the kernel makes of a byte's high four bits. -/
def byteHi (b : BitVec 8) : BitVec 8 := (b &&& 0x80#8) ||| ((b >>> 2) &&& 0x1C#8)

/-- The reference's reading of a 4-bit weight held in a 32-bit word. -/
def refDec (n : BitVec 32) : EReal :=
  let s := IntOp.cmpi .ne (IntOp.andi n 8#32) 0#32
  let b0 := IntOp.cmpi .ne (IntOp.andi n 1#32) 0#32
  let b1 := IntOp.cmpi .ne (IntOp.andi n 2#32) 0#32
  let b2 := IntOp.cmpi .ne (IntOp.andi n 4#32) 0#32
  let k (b : BitVec 16) : EReal := Ideal.ofBits .bf16 b
  let mag := Scalar.select b2 (Scalar.select b1 (Scalar.select b0 (k 0x40C0#16) (k 0x4080#16)) (Scalar.select b0 (k 0x4040#16) (k 0x4000#16)))
    (Scalar.select b1 (Scalar.select b0 (k 0x3FC0#16) (k 0x3F80#16)) (Scalar.select b0 (k 0x3F00#16) (k 0x0000#16)))
  Scalar.select s (k 0x0000#16 - mag) mag

/-- The low four bits as the reference takes them. -/
def nibLo (b : BitVec 8) : BitVec 32 := IntOp.andi (b.setWidth 32) 15#32

/-- The high four bits as the reference takes them. -/
def nibHi (b : BitVec 8) : BitVec 32 := IntOp.shrsi .vector (b.setWidth 32) 4#32

/-! ## The patterns and the nibbles depend on four bits only -/

/-- The low decode depends on the low half-byte alone. -/
theorem byteLo_nib : ∀ b : BitVec 8, byteLo b = byteLo ((nibLo b).setWidth 8) := by decide +kernel

/-- The high decode of a byte is the low decode of its high half-byte. -/
theorem byteHi_nib : ∀ b : BitVec 8, byteHi b = byteLo ((nibHi b).setWidth 8) := by decide +kernel

/-- A low half-byte is below 16. -/
theorem nibLo_lt : ∀ b : BitVec 8, nibLo b < 16#32 := by decide +kernel

/-- A high half-byte is below 16. -/
theorem nibHi_lt : ∀ b : BitVec 8, nibHi b < 16#32 := by decide +kernel

/-! ## The sixteen numbers -/

/-- The bf16 constants of the decode are the numbers they name. -/
theorem bf_6 : Ideal.ofBits .bf16 0x40C0#16 = ((6 : ℝ) : EReal) := by
  simp [Ideal.ofBits, Ideal.ieee, -EReal.coe_mul]; norm_num

/-- The bf16 constants of the decode are the numbers they name. -/
theorem bf_4 : Ideal.ofBits .bf16 0x4080#16 = ((4 : ℝ) : EReal) := by
  simp [Ideal.ofBits, Ideal.ieee, -EReal.coe_mul]; norm_num

/-- The bf16 constants of the decode are the numbers they name. -/
theorem bf_3 : Ideal.ofBits .bf16 0x4040#16 = ((3 : ℝ) : EReal) := by
  simp [Ideal.ofBits, Ideal.ieee, -EReal.coe_mul]; norm_num

/-- The bf16 constants of the decode are the numbers they name. -/
theorem bf_2 : Ideal.ofBits .bf16 0x4000#16 = ((2 : ℝ) : EReal) := by
  simp [Ideal.ofBits, Ideal.ieee, -EReal.coe_mul]; norm_num

/-- The bf16 constants of the decode are the numbers they name. -/
theorem bf_3_2 : Ideal.ofBits .bf16 0x3FC0#16 = ((3 / 2 : ℝ) : EReal) := by
  simp [Ideal.ofBits, Ideal.ieee, -EReal.coe_mul]; norm_num

/-- The bf16 constants of the decode are the numbers they name. -/
theorem bf_1 : Ideal.ofBits .bf16 0x3F80#16 = ((1 : ℝ) : EReal) := by
  simp [Ideal.ofBits, Ideal.ieee, -EReal.coe_mul]; norm_num

/-- The bf16 constants of the decode are the numbers they name. -/
theorem bf_1_2 : Ideal.ofBits .bf16 0x3F00#16 = ((1 / 2 : ℝ) : EReal) := by
  simp [Ideal.ofBits, Ideal.ieee, -EReal.coe_mul]; norm_num

/-- The bf16 constants of the decode are the numbers they name. -/
theorem bf_0 : Ideal.ofBits .bf16 0x0000#16 = ((0 : ℝ) : EReal) := by
  simp [Ideal.ofBits, Ideal.ieee, -EReal.coe_mul]

/-- The bf16 constants of the decode are the numbers they name. -/
theorem bf_64 : Ideal.ofBits .bf16 0x4280#16 = ((64 : ℝ) : EReal) := by
  simp [Ideal.ofBits, Ideal.ieee, -EReal.coe_mul]; norm_num

/-- Each fp8 pattern's number, times 64, is the 4-bit weight. -/
theorem dec_all (n : Fin 16) : Ideal.e4m3fn (byteLo (BitVec.ofNat 8 n.val)) * ((64 : ℝ) : EReal) = refDec (BitVec.ofNat 32 n.val) := by
  fin_cases n <;>
    simp [refDec, bf_6, bf_4, bf_3, bf_2, bf_3_2, bf_1, bf_1_2, bf_0, Ideal.e4m3fn, byteLo, Scalar.select, IntOp.cmpi, IntOp.andi,
      -EReal.coe_mul, -EReal.coe_neg, ← EReal.coe_mul, ← EReal.coe_neg] <;> norm_num

/-- The fp8 number of a moved half-byte, times 64, is the number the reference selects, for all sixteen half-bytes. -/
theorem dec_nib (n : BitVec 32) (h : n < 16#32) : Ideal.e4m3fn (byteLo (n.setWidth 8)) * ((64 : ℝ) : EReal) = refDec n := by
  have hl : n.toNat < 16 := h
  have := dec_all ⟨n.toNat, hl⟩
  have e8 : n.setWidth 8 = BitVec.ofNat 8 n.toNat := by
    apply BitVec.eq_of_toNat_eq; simp
  have e32 : BitVec.ofNat 32 n.toNat = n := by
    apply BitVec.eq_of_toNat_eq; simp
  rw [e8, this, e32]

/-- The low weight: 64 times the kernel's fp8 number is the reference's weight. -/
theorem dec_lo (b : BitVec 8) : Ideal.e4m3fn (byteLo b) * ((64 : ℝ) : EReal) = refDec (nibLo b) := by
  rw [byteLo_nib]; exact dec_nib _ (nibLo_lt b)

/-- The high weight: 64 times the kernel's fp8 number is the reference's weight. -/
theorem dec_hi (b : BitVec 8) : Ideal.e4m3fn (byteHi b) * ((64 : ℝ) : EReal) = refDec (nibHi b) := by
  rw [byteHi_nib]; exact dec_nib _ (nibHi_lt b)

/-- The weights with their block scale: the factor 64 the kernel gives the scale is the one its fp8 numbers lack. -/
theorem mul_64 (v s d : EReal) (h : v * ((64 : ℝ) : EReal) = d) : v * (s * ((64 : ℝ) : EReal)) = d * s := by
  rw [← h, mul_comm s, ← mul_assoc]

/-! ## Words of four bytes -/

/-- Words read as bytes: byte `k` of a lane is bits `8 * (k % 4)` and up of word `k / 4`. -/
theorem bitcast_32_8_getLsbD (y : (⟨2, ![1024, 256]⟩ : Shape).Idx → BitVec 32)
    (h : (⟨2, ![1024, 256]⟩ : Shape).Bitcasts 32 ⟨2, ![4096, 256]⟩ 8) (k : Fin 4096) (l : Fin 256) (i : ℕ) (hi : i < 8) :
    (bitcast ⟨2, ![4096, 256]⟩ 8 y h (ValueIdx.ix2 k l)).getLsbD i
      = (y (ValueIdx.ix2 ⟨k.val / 4, by omega⟩ l)).getLsbD (8 * (k.val % 4) + i) := by
  rw [bitcast_getLsbD y h _ i hi (by decide)]
  have hr : Shape.row (⟨2, ![4096, 256]⟩ : Shape) (ValueIdx.ix2 k l) = k.val := rfl
  have e2 : (Shape.row (⟨2, ![4096, 256]⟩ : Shape) (ValueIdx.ix2 k l) * 8 + i) % 32 = 8 * (k.val % 4) + i := by rw [hr]; omega
  rw [e2]
  congr 2
  funext c
  match c with
  | ⟨0, _⟩ =>
    refine Fin.ext ((h.srcIdx_row _ _ _ ⟨0, Nat.zero_lt_two⟩ rfl).trans ?_)
    rw [hr]
    show (k.val * 8 + i) / 32 = k.val / 4
    omega
  | ⟨1, _⟩ => exact Fin.ext (h.srcIdx_other _ _ _ ⟨1, Nat.one_lt_two⟩ (by show ¬ 1 + 2 = 2; omega))

/-- The kernel's word for the low weights. -/
def wordLo (w : BitVec 32) : BitVec 32 :=
  IntOp.ori (IntOp.andi (IntOp.shli .vector w 4#32) 2155905152#32) (IntOp.andi (IntOp.shli .vector w 2#32) 471604252#32)

/-- The kernel's word for the high weights. -/
def wordHi (w : BitVec 32) : BitVec 32 :=
  IntOp.ori (IntOp.andi w 2155905152#32) (IntOp.andi (IntOp.shrui .vector w 2#32) 471604252#32)

/-- Byte `r` of the low word is the low pattern of byte `r`. -/
theorem wordLo_bit (w : BitVec 32) (b : BitVec 8) (r i : ℕ) (hr : r < 4) (hi : i < 8)
    (hb : ∀ q, q < 8 → w.getLsbD (8 * r + q) = b.getLsbD q) : (wordLo w).getLsbD (8 * r + i) = (byteLo b).getLsbD i := by
  have h0 := hb 0 (by omega); have h1 := hb 1 (by omega); have h2 := hb 2 (by omega); have h3 := hb 3 (by omega)
  have e1 : IntOp.shli .vector w 4#32 = w <<< 4 := rfl
  have e2 : IntOp.shli .vector w 2#32 = w <<< 2 := rfl
  unfold wordLo byteLo
  rw [e1, e2]
  simp only [IntOp.ori, IntOp.andi, BitVec.getLsbD_or, BitVec.getLsbD_and, BitVec.getLsbD_shiftLeft]
  interval_cases r <;> interval_cases i <;> simp at h0 h1 h2 h3 ⊢ <;> simp [h0, h1, h2, h3]

/-- Byte `r` of the high word is the high pattern of byte `r`. -/
theorem wordHi_bit (w : BitVec 32) (b : BitVec 8) (r i : ℕ) (hr : r < 4) (hi : i < 8)
    (hb : ∀ q, q < 8 → w.getLsbD (8 * r + q) = b.getLsbD q) : (wordHi w).getLsbD (8 * r + i) = (byteHi b).getLsbD i := by
  have h4 := hb 4 (by omega); have h5 := hb 5 (by omega); have h6 := hb 6 (by omega); have h7 := hb 7 (by omega)
  have e2 : IntOp.shrui .vector w 2#32 = w >>> 2 := rfl
  unfold wordHi byteHi
  rw [e2]
  simp only [IntOp.ori, IntOp.andi, BitVec.getLsbD_or, BitVec.getLsbD_and, BitVec.getLsbD_ushiftRight]
  interval_cases r <;> interval_cases i <;> simp at h4 h5 h6 h7 ⊢ <;> simp [h4, h5, h6, h7]

/-- Bytes read as words, the low word made of each, and read as bytes again: the low pattern of each byte. -/
theorem bytesLo (x : (⟨2, ![4096, 256]⟩ : Shape).Idx → BitVec 8) (h : (⟨2, ![4096, 256]⟩ : Shape).Bitcasts 8 ⟨2, ![1024, 256]⟩ 32)
    (h' : (⟨2, ![1024, 256]⟩ : Shape).Bitcasts 32 ⟨2, ![4096, 256]⟩ 8) (k : Fin 4096) (l : Fin 256) :
    bitcast ⟨2, ![4096, 256]⟩ 8 (fun j => wordLo (bitcast ⟨2, ![1024, 256]⟩ 32 x h j)) h' (ValueIdx.ix2 k l) = byteLo (x (ValueIdx.ix2 k l)) := by
  apply BitVec.eq_of_getLsbD_eq
  intro i hi
  rw [bitcast_32_8_getLsbD _ _ _ _ _ hi]
  refine wordLo_bit _ _ _ _ (by omega) hi fun q hq => ?_
  rw [bitcast_8_32_getLsbD_ix2 x h _ _ _ (by omega) k (by show k.val = 4 * (k.val / 4) + _; omega)]
  congr 1; omega

/-- The same for the high word. -/
theorem bytesHi (x : (⟨2, ![4096, 256]⟩ : Shape).Idx → BitVec 8) (h : (⟨2, ![4096, 256]⟩ : Shape).Bitcasts 8 ⟨2, ![1024, 256]⟩ 32)
    (h' : (⟨2, ![1024, 256]⟩ : Shape).Bitcasts 32 ⟨2, ![4096, 256]⟩ 8) (k : Fin 4096) (l : Fin 256) :
    bitcast ⟨2, ![4096, 256]⟩ 8 (fun j => wordHi (bitcast ⟨2, ![1024, 256]⟩ 32 x h j)) h' (ValueIdx.ix2 k l) = byteHi (x (ValueIdx.ix2 k l)) := by
  apply BitVec.eq_of_getLsbD_eq
  intro i hi
  rw [bitcast_32_8_getLsbD _ _ _ _ _ hi]
  refine wordHi_bit _ _ _ _ (by omega) hi fun q hq => ?_
  rw [bitcast_8_32_getLsbD_ix2 x h _ _ _ (by omega) k (by show k.val = 4 * (k.val / 4) + _; omega)]
  congr 1; omega

end Cert.Lin

end
-- ==== Proof.Spec.lean ====
/-
  The three results as closed forms over the four arguments, with the two scales as parameters: what the kernel and the
  reference both compute, up to how each finds the power of two of a row.
-/
module

public import Idealize.ShloMosaic.Lib.Pointwise
public import proofs.«01_k».proof.Proof.Exponent
public import proofs.«01_k».proof.Proof.Decode

@[expose] public section

noncomputable section

namespace Cert.Lin

open Idealize.ShloMosaic Pointwise

/-- The activations. -/
abbrev XArr : Type := (⟨3, ![1, 3072, 4096]⟩ : Shape).Idx → EReal
/-- The packed weights. -/
abbrev PArr : Type := (⟨2, ![4096, 256]⟩ : Shape).Idx → BitVec 8

/-- The largest absolute value of a row. -/
def amax (v : Fin 4096 → EReal) : EReal := Finset.univ.fold max ⊥ fun k => max (v k) (-v k)

/-- The f32 number nearest 1/448. -/
def recip : EReal := Ideal.ofBits .f32 0x3B124925#32

/-- The row's largest absolute value in units of the fp8 format's largest number. -/
def rowT (v : Fin 4096 → EReal) : EReal := amax v * recip

/-- The fp8 code of `a` under the reciprocal scale `i`: scaled, then clipped at the format's largest number. -/
def code (i a : EReal) : EReal := min ((448 : ℝ) : EReal) (max ((-448 : ℝ) : EReal) (a * i))

/-- The weight of input `k` and output `n`: low half-bytes first, high half-bytes second, each with its block's scale. -/
def wt (p : PArr) (s : (⟨2, ![256, 512]⟩ : Shape).Idx → EReal) (k : Fin 4096) (n : Fin 512) : EReal :=
  (if h : n.val < 256 then refDec (nibLo (p (ix2 k ⟨n.val, h⟩))) else refDec (nibHi (p (ix2 k ⟨n.val - 256, by omega⟩))))
    * s (ix2 ⟨k.val / 16, by omega⟩ n)

/-- The product of one row of codes and one column of weights, with the row's scale and the global one. -/
def dotRow (s i g : EReal) (v w : Fin 4096 → EReal) : EReal := (∑ k, code i (v k) * w k) * (s * g)

/-! ## The constants -/

theorem ninf_f32 : Ideal.ofBits .f32 0xFF800000#32 = ⊥ := by
  simp [Ideal.ofBits, Ideal.ieee]

theorem ninf_bf16 : Ideal.ofBits .bf16 0xFF80#16 = ⊥ := by
  simp [Ideal.ofBits, Ideal.ieee]

theorem c448_f32 : Ideal.ofBits .f32 0x43E00000#32 = ((448 : ℝ) : EReal) := by
  simp [Ideal.ofBits, Ideal.ieee, -EReal.coe_mul]; norm_num

theorem cm448_f32 : Ideal.ofBits .f32 0xC3E00000#32 = ((-448 : ℝ) : EReal) := by
  simp [Ideal.ofBits, Ideal.ieee, -EReal.coe_mul, -EReal.coe_neg]; norm_num

theorem c448_bf16 : Ideal.ofBits .bf16 0x43E0#16 = ((448 : ℝ) : EReal) := by
  simp [Ideal.ofBits, Ideal.ieee, -EReal.coe_mul]; norm_num

theorem cm448_bf16 : Ideal.ofBits .bf16 0xC3E0#16 = ((-448 : ℝ) : EReal) := by
  simp [Ideal.ofBits, Ideal.ieee, -EReal.coe_mul, -EReal.coe_neg]; norm_num

theorem zero_f32 : Ideal.ofBits .f32 0x00000000#32 = 0 := by
  simp [Ideal.ofBits, Ideal.ieee]

theorem one_f32 : Ideal.ofBits .f32 0x3F800000#32 = 1 := by
  have : Ideal.ofBits .f32 0x3F800000#32 = ((1 : ℝ) : EReal) := by
    simp [Ideal.ofBits, Ideal.ieee, -EReal.coe_mul]; norm_num
  rw [this]; rfl

/-- The constant 1/448 is a positive real. -/
theorem recip_real : ∃ c : ℝ, 0 < c ∧ recip = (c : EReal) := by
  refine ⟨9586981 / 2 ^ 32, by norm_num, ?_⟩
  unfold recip
  simp [Ideal.ofBits, Ideal.ieee, -EReal.coe_mul]; norm_num

/-- The smallest normal f32 number. -/
theorem tiny_f32 : Ideal.ofBits .f32 0x00800000#32 = (((2 : ℝ) ^ (-126 : ℤ) : ℝ) : EReal) := val_pow 1 (by omega) (by omega)

/-- The bound above. -/
theorem huge_f32 : Ideal.ofBits .f32 0x7E800000#32 = (((2 : ℝ) ^ (126 : ℤ) : ℝ) : EReal) := val_pow 253 (by omega) (by omega)

/-- THE SCALES OF A ROW AGREE wherever the row's `t` is zero or normal below `2^126`. -/
theorem row_scales (v : Fin 4096 → EReal)
    (h : rowT v = 0 ∨ (Ideal.ofBits .f32 0x00800000#32 ≤ rowT v ∧ rowT v < Ideal.ofBits .f32 0x7E800000#32)) :
    kscale (rowT v) = Ideal.exp2 (rexp (amax v) (rowT v)) ∧ kinv (rowT v) = Ideal.exp2 (0 - rexp (amax v) (rowT v)) := by
  obtain ⟨c, hc, e⟩ := recip_real
  rw [tiny_f32, huge_f32] at h
  unfold rowT at h ⊢
  rw [e] at h ⊢
  exact scales_eq (amax v) c hc h

end Cert.Lin

end
-- ==== Proof.Payload.lean ====
/-
  What the kernel's body computes at one index, at the ideal instance: the row's `t`, its two scales, the codes, the
  decoded weights, the scaled product, and the two halves of the scale row.
-/
module

public import proofs.«01_k».proof.Proof.Gen.KernelIdeal.Skeleton
public import proofs.«01_k».proof.Proof.Spec

@[expose] public section

set_option maxRecDepth 16384

noncomputable section

namespace Cert.KernelIdeal.Blk

open Idealize.ShloMosaic Cert.KernelIdeal Cert.KernelIdeal.Gen Pointwise Cert.Lin

/-- One row of a block of activations. -/
def brow (v3 : Vec Ideal S1x256x4096 .bf16) (r : Fin 256) : Fin 4096 → EReal := fun k => v3 (ix3 0 r k)

/-- The kernel's `t` of a row. -/
theorem pay7_apply (v3 : Vec Ideal S1x256x4096 .bf16) (r : Fin 256) : k0_pay7 v3 (ix2 r 0) = rowT (brow v3 r) := by
  pointwise [k0_pay7, k0_pay6]
  rw [ninf_bf16]
  rfl

/-- One step of the search, at a row. -/
theorem vstep (t : FVec Ideal S256x1 .f32) (b n : IVec S256x1 32) (j : S256x1.Idx) :
    select (cmpf .oge t (bitcastToFloat .f32 (shli (addi n b) (broadcast S256x1 23#32)))) (addi n b) n j = step (t j) (b j) (n j) := rfl

/-- The first four steps of the search, at a row. -/
theorem pay8_apply (v3 : Vec Ideal S1x256x4096 .bf16) (j : S256x1.Idx) : k0_pay8 v3 j = srchHi (k0_pay7 v3 j) := by
  unfold k0_pay8 srchHi
  generalize k0_pay7 v3 = t
  rw [vstep, vstep, vstep, vstep]
  simp only [broadcast]

/-- The last four steps and the exponent, at a row. -/
theorem pay10_apply (t : FVec Ideal S256x1 .f32) (n : IVec S256x1 32) (j : S256x1.Idx) :
    k0_pay10 (F := Ideal) t n (k0_pay9) j = expo (srchLo (t j) (n j)) := rfl

/-- The row's scale. -/
theorem scale_apply (v3 : Vec Ideal S1x256x4096 .bf16) (r : Fin 256) :
    k0_pay11 (F := Ideal) (k0_pay7 v3) (k0_pay8 v3) k0_pay9 (ix2 r 0) = kscale (rowT (brow v3 r)) := by
  show val (IntOp.addi (k0_pay10 (F := Ideal) (k0_pay7 v3) (k0_pay8 v3) k0_pay9 (ix2 r 0)) 127#32) = _
  rw [pay10_apply, pay8_apply, pay7_apply]
  rfl

/-- The row's activations under its reciprocal scale. -/
theorem pay12_apply (v3 : Vec Ideal S1x256x4096 .bf16) (r : Fin 256) (k : Fin 4096) :
    k0_pay12 (F := Ideal) (k0_pay6 v3) (k0_pay7 v3) (k0_pay8 v3) k0_pay9 (ix2 r k) = brow v3 r k * kinv (rowT (brow v3 r)) := by
  pointwise [k0_pay12, k0_pay6]
  rw [pay10_apply, pay8_apply, pay7_apply]
  rfl

/-- The codes of a block. -/
theorem pay14_apply (v : FVec Ideal S256x4096 .bf16) (r : Fin 256) (k : Fin 4096) :
    k0_pay14 v (ix3 0 r k) = min ((448 : ℝ) : EReal) (max ((-448 : ℝ) : EReal) (v (ix2 r k))) := by
  pointwise [k0_pay14, k0_pay13]
  rw [c448_bf16, cm448_bf16]

/-- The scaled product of a block. -/
theorem pay15_apply (s : FVec Ideal S256x1 .f32) (v : FVec Ideal S256x4096 .bf16) (w : Vec Ideal S4096x512 .bf16) (g : Elt Ideal .f32)
    (r : Fin 256) (n : Fin 512) : k0_pay15 s v w g (ix3 0 r n)
      = (∑ k, min ((448 : ℝ) : EReal) (max ((-448 : ℝ) : EReal) (v (ix2 r k))) * w (ix2 k n)) * (s (ix2 r 0) * g) := by
  pointwise [k0_pay15, k0_pay13]
  rw [c448_bf16, cm448_bf16]

/-- A sum that keeps the one term on the diagonal. -/
theorem diag (f : Fin 128 → EReal) (r : Fin 128) :
    (∑ x, Scalar.select (IntOp.cmpi CmpIPredicate.eq (BitVec.ofNat 32 x.val) (BitVec.ofNat 32 r.val)) (f x) 0) = f r := by
  rw [Finset.sum_eq_single r]
  · simp [Scalar.select, IntOp.cmpi]
  · intro b _ hb
    have : BitVec.ofNat 32 b.val ≠ BitVec.ofNat 32 r.val := by
      intro h
      have := congrArg BitVec.toNat h
      simp only [BitVec.toNat_ofNat] at this
      exact hb (Fin.ext (by omega))
    simp only [Scalar.select, IntOp.cmpi, beq_eq_false_iff_ne.mpr this]
    exact if_neg (by decide)
  · exact fun h => absurd (Finset.mem_univ _) h

/-- The first 128 rows' scales, turned into a row. -/
theorem pay16_apply (s : FVec Ideal S256x1 .f32) (r : Fin 128) : k0_pay16 s (ix2 0 r) = s (ix2 ⟨r.val, by omega⟩ 0) := by
  pointwise [k0_pay16]
  exact diag (fun x => s (ix2 ⟨x.val, by omega⟩ 0)) r

/-- The last 128 rows' scales, turned into a row. -/
theorem pay17_apply (s : FVec Ideal S256x1 .f32) (r : Fin 128) : k0_pay1 (k0_pay17 s) (ix2 0 r) = s (ix2 ⟨128 + r.val, by omega⟩ 0) := by
  pointwise [k0_pay17, k0_pay1]
  exact diag (fun x => s (ix2 ⟨128 + x.val, by omega⟩ 0)) r

/-- The low weights with their block scales. -/
theorem pay3_apply (p : Vec Ideal S4096x256 .i8) (s : Vec Ideal S256x256 .fp8e4m3) (k : Fin 4096) (n : Fin 256) :
    k0_pay3 p s (ix2 k n) = refDec (nibLo (p (ix2 k n))) * s (ix2 ⟨k.val / 16, by omega⟩ n) := by
  pointwise [k0_pay3, k0_pay2]
  rw [bf_64]
  refine mul_64 _ _ _ ?_
  rw [← dec_lo]
  congr 1
  have := bytesLo p bitcasts_S4096x256_w8_S1024x256_w32 bitcasts_S1024x256_w32_S4096x256_w8 k n
  rw [← ix2_eq_valueIdx] at this
  exact congrArg Ideal.e4m3fn this

/-- The high weights with their block scales. -/
theorem pay5_apply (p : Vec Ideal S4096x256 .i8) (s : Vec Ideal S256x256 .fp8e4m3) (k : Fin 4096) (n : Fin 256) :
    k0_pay5 (k0_pay4 p s) (ix2 k n) = refDec (nibHi (p (ix2 k n))) * s (ix2 ⟨k.val / 16, by omega⟩ n) := by
  pointwise [k0_pay5, k0_pay4, k0_pay2]
  rw [bf_64]
  refine mul_64 _ _ _ ?_
  rw [← dec_hi]
  congr 1
  have := bytesHi p bitcasts_S4096x256_w8_S1024x256_w32 bitcasts_S1024x256_w32_S4096x256_w8 k n
  rw [← ix2_eq_valueIdx] at this
  exact congrArg Ideal.e4m3fn this

end Cert.KernelIdeal.Blk

end
-- ==== Proof.Block.lean ====
/-
  What the kernel leaves at each grid point, over the four arguments: the scratch holds the decoded weights from the first
  point on, and point `t` writes 256 rows of each result.
-/
module

public import proofs.«01_k».proof.Proof.Gen.KernelIdeal.Value
public import Idealize.ShloMosaic.Lib.Pipeline.ValueKit
public import proofs.«01_k».proof.Proof.Payload

@[expose] public section

set_option maxRecDepth 16384

noncomputable section

namespace Cert.KernelIdeal.Blk

open Idealize.ShloMosaic Idealize.ShloMosaic.TcCoe Idealize.SL.Sem Cert.KernelIdeal Cert.KernelIdeal.Gen Pointwise Cert.Lin

variable (m : (ℓ : Loc nD τ sig) → Buf (Elt Ideal) ℓ)

/-- The activations, packed weights, block scales and global scale on a device. -/
def aX (c : Dev nD) : S1x3072x4096.Idx → EReal := m ((c : Thread nD τ).loc main_arg0)
/-- The packed weights on a device. -/
def aP (c : Dev nD) : S4096x256.Idx → BitVec 8 := m ((c : Thread nD τ).loc main_arg1)
/-- The block scales on a device. -/
def aS (c : Dev nD) : S256x512.Idx → EReal := m ((c : Thread nD τ).loc main_arg2)

/-- The global scale on a device. -/
def aG (c : Dev nD) : EReal := m ((c : Thread nD τ).loc main_arg3) (fun a => a.elim0)

/-- The block indices of every window, at every point. -/
theorem idx : ∀ t : Fin cfg0.N, win0_0.index t = ![0, 0] ∧ win0_1.index t = ![0, t.val, 0] ∧ win0_2.index t = ![0, 0]
    ∧ win0_3.index t = ![0, 0] ∧ win0_4.index t = ![0, t.val, 0] ∧ win0_5.index t = ![0, t.val, 0] ∧ win0_6.index t = ![0, t.val] := by
  decide +kernel

/-- There are twelve grid points. -/
theorem lt12 (t : Fin cfg0.N) : t.val < 12 := N_0 ▸ t.isLt

/-- The array's row that row `r` of the block at point `t` is. -/
def grow (t : Fin cfg0.N) (r : Fin 256) : Fin 3072 := ⟨256 * t.val + r.val, by have := lt12 t; omega⟩

/-- The activations at a point are its 256 rows of the array. -/
theorem blk1 (c : Dev nD) (t : Fin cfg0.N) (r : Fin 256) (k : Fin 4096) :
    iblk m c 1 t (ix3 0 r k) = aX m c (ix3 0 (grow t r) k) := by
  unfold aX grow
  blk_ext [iblk, V_main_arg0, idx t]

/-- The packed weights at every point are the whole array. -/
theorem blk2 (c : Dev nD) (t : Fin cfg0.N) (k : Fin 4096) (n : Fin 256) : iblk m c 2 t (ix2 k n) = aP m c (ix2 k n) := by
  unfold aP
  blk_ext [iblk, V_main_arg1, idx t]

/-- The block scales at every point are the whole array. -/
theorem blk3 (c : Dev nD) (t : Fin cfg0.N) (k : Fin 256) (n : Fin 512) : iblk m c 3 t (ix2 k n) = aS m c (ix2 k n) := by
  unfold aS
  blk_ext [iblk, V_main_arg2, idx t]

/-- The global scale at every point is the argument. -/
theorem blk0 (c : Dev nD) (t : Fin cfg0.N) (j : S1x1.Idx) : iblk m c 0 t j = aG m c := by
  blk_simp [iblk]
  show shapeCast S1x1 (m ((c : Thread nD τ).loc main_arg3)) shapeCasts_S_S1x1 _ = _
  exact congrArg (m ((c : Thread nD τ).loc main_arg3)) (funext fun a => a.elim0)

/-- The row of activations that row `r` of the block at point `t` is. -/
def arow (c : Dev nD) (i : Fin 3072) : Fin 4096 → EReal := fun k => aX m c (ix3 0 i k)

/-- A row of the block at a point is a row of the array. -/
theorem brow_eq (c : Dev nD) (t : Fin cfg0.N) (r : Fin 256) : brow (iblk m c 1 t) r = arow m c (grow t r) :=
  funext fun k => blk1 m c t r k

/-! ## The scratch -/

/-- The second half of the scale columns, read at an index. -/
theorem ldHi (s : Vec Ideal S256x512 .fp8e4m3) (a b : Fin 256) :
    View.ld s (Rect.unit ![0, 256] ![256, 256] inb_S256x512_S256x256_0_256) (ix2 a b) = s (ix2 a ⟨256 + b.val, by omega⟩) := by
  pointwise

/-- The first half of the scale columns, read at an index. -/
theorem ldLo (s : Vec Ideal S256x512 .fp8e4m3) (a b : Fin 256) :
    View.ld s (Rect.unit ![0, 0] ![256, 256] inb_S256x512_S256x256_0_0) (ix2 a b) = s (ix2 a ⟨b.val, by omega⟩) := by
  pointwise

/-- The two halves the first point stores in the scratch are the weights. -/
theorem canon_wt (p : Vec Ideal S4096x256 .i8) (s : Vec Ideal S256x512 .fp8e4m3) (k : Fin 4096) (n : Fin 512) :
    View.canon (Val := Elt Ideal) (s := S4096x512) (e := .bf16)
      [⟨Rect.unit ![0, 256] ![4096, 256] inb_S4096x512_S4096x256_0_256,
          k0_pay5 (k0_pay4 p (View.ld s (Rect.unit ![0, 256] ![256, 256] inb_S256x512_S256x256_0_256)))⟩,
        ⟨Rect.unit ![0, 0] ![4096, 256] inb_S4096x512_S4096x256_0_0,
          k0_pay3 p (View.ld s (Rect.unit ![0, 0] ![256, 256] inb_S256x512_S256x256_0_0))⟩] (ix2 k n) = wt p s k n := by
  canon_tiles x h
  · obtain ⟨a, b, rfl⟩ : ∃ (a : Fin 4096) (b : Fin 256), x = ix2 a b := ⟨x 0, x 1, eq_ix2 x⟩
    obtain rfl : k = a := Fin.ext h0
    have h1' : n.val = 256 + b.val := h1
    have hn : ¬ n.val < 256 := by omega
    have e1 : (⟨n.val - 256, by omega⟩ : Fin 256) = b := Fin.ext (by show n.val - 256 = _; omega)
    have e2 : (⟨256 + b.val, by omega⟩ : Fin 512) = n := Fin.ext h1'.symm
    rw [pay5_apply, ldHi, e2]
    unfold wt
    rw [dif_neg hn, e1]
  · obtain ⟨a, b, rfl⟩ : ∃ (a : Fin 4096) (b : Fin 256), x = ix2 a b := ⟨x 0, x 1, eq_ix2 x⟩
    obtain rfl : k = a := Fin.ext h0
    have h1' : n.val = b.val := h1
    have hn : n.val < 256 := by omega
    have e1 : (⟨n.val, hn⟩ : Fin 256) = b := Fin.ext h1'
    have e2 : (⟨b.val, by omega⟩ : Fin 512) = n := Fin.ext h1'.symm
    rw [pay3_apply, ldLo, e2]
    unfold wt
    rw [dif_pos hn, e1]

/-- The two halves cover the scratch. -/
theorem cover_halves (a b : Vec Ideal S4096x256 .bf16) (y : S4096x512.Idx) :
    ∃ p ∈ ([⟨Rect.unit ![0, 256] ![4096, 256] inb_S4096x512_S4096x256_0_256, a⟩,
        ⟨Rect.unit ![0, 0] ![4096, 256] inb_S4096x512_S4096x256_0_0, b⟩] : List (View.Piece (Elt Ideal) S4096x512 .bf16)), y ∈ p.1.set :=
  View.cover_of_tiledL ([⟨Rect.unit ![0, 256] ![4096, 256] inb_S4096x512_S4096x256_0_256, a⟩,
        ⟨Rect.unit ![0, 0] ![4096, 256] inb_S4096x512_S4096x256_0_0, b⟩] : List (View.Piece (Elt Ideal) S4096x512 .bf16))
    S4096x256.size (by sl_kernel_rfl) y

/-- The decoded weights as the scratch holds them. -/
def scr (c : Dev nD) : Vec Ideal S4096x512 .bf16 := fun j => wt (aP m c) (aS m c) (j 0) (j 1)

/-- The scratch at an index is the weight there. -/
theorem scr_apply (c : Dev nD) (k : Fin 4096) (n : Fin 512) : scr m c (ix2 k n) = wt (aP m c) (aS m c) k n := rfl

/-- The clip of a scaled number is its code. -/
theorem clip_eq (i a : EReal) : min ((448 : ℝ) : EReal) (max ((-448 : ℝ) : EReal) (a * i)) = code i a := rfl

/-- The packed weights at every point, as an array. -/
theorem iblk2_eq (c : Dev nD) (t : Fin cfg0.N) : iblk m c 2 t = aP m c := funext fun j => by
  rw [eq_ix2 j]; exact blk2 m c t _ _

/-- The block scales at every point, as an array. -/
theorem iblk3_eq (c : Dev nD) (t : Fin cfg0.N) : iblk m c 3 t = aS m c := funext fun j => by
  rw [eq_ix2 j]; exact blk3 m c t _ _

/-- The two stores of decoded columns at the first point make up the scratch. -/
theorem canon_scr (c : Dev nD) (t : Fin cfg0.N) :
    View.canon (Val := Elt Ideal) (s := S4096x512) (e := .bf16)
      [⟨Rect.unit ![0, 256] ![4096, 256] inb_S4096x512_S4096x256_0_256,
          k0_pay5 (k0_pay4 (iblk m c 2 t) (View.ld (iblk m c 3 t) (Rect.unit ![0, 256] ![256, 256] inb_S256x512_S256x256_0_256)))⟩,
        ⟨Rect.unit ![0, 0] ![4096, 256] inb_S4096x512_S4096x256_0_0,
          k0_pay3 (iblk m c 2 t) (View.ld (iblk m c 3 t) (Rect.unit ![0, 0] ![256, 256] inb_S256x512_S256x256_0_0))⟩] = scr m c := by
  funext j
  conv_lhs => rw [eq_ix2 j]
  rw [iblk2_eq, iblk3_eq]
  exact canon_wt _ _ _ _

/-- From the first point on the scratch holds the decoded weights. -/
theorem scratch (c : Dev nD) : ∀ (n : ℕ) (hn : n < cfg0.N), (outsAt0 m c n hn).2.2.2 = scr m c := by
  intro n
  induction n with
  | zero =>
    intro hn
    rw [outsAt0_A m c ⟨0, hn⟩ rfl]
    frame_out
    exact canon_scr m c _
  | succ n ih =>
    intro hn
    have h : ¬ (n + 1) % 12 = 0 := by have := lt12 ⟨n + 1, hn⟩; dsimp only at this; omega
    have e : (outsAt0 m c (n + 1) hn).2.2.2 = (outsAt0 m c n (by omega)).2.2.2 := by
      rw [outsAt0_B m c ⟨n + 1, hn⟩ h]
      unfold sout0_B_0
      exact Eq.refl _
    rw [e]
    exact ih _

/-! ## The blocks -/

/-- Block `t` of the codes. -/
theorem out5 (c : Dev nD) (t : Fin cfg0.N) (r : Fin 256) (k : Fin 4096) : (outsAt0 m c t.val t.isLt).2.1 (ix3 0 r k)
    = code (kinv (rowT (arow m c (grow t r)))) (arow m c (grow t r) k) := by
  have key : k0_pay14 (F := Ideal) (k0_pay12 (k0_pay6 (iblk m c 1 t)) (k0_pay7 (iblk m c 1 t)) (k0_pay8 (iblk m c 1 t)) k0_pay9) (ix3 0 r k)
      = code (kinv (rowT (arow m c (grow t r)))) (arow m c (grow t r) k) := by
    rw [pay14_apply, pay12_apply, brow_eq, clip_eq]
  by_cases h0 : t.val % 12 = 0
  · rw [outsAt0_A m c t h0]
    frame_out
    exact key
  · rw [outsAt0_B m c t h0]
    frame_out
    exact key

/-- The product block over any weights in the scratch. -/
theorem out4_key (c : Dev nD) (t : Fin cfg0.N) (w : Vec Ideal S4096x512 .bf16) (hw : w = scr m c) (g : Elt Ideal .f32) (hg : g = aG m c)
    (r : Fin 256) (n : Fin 512) :
    k0_pay15 (F := Ideal) (k0_pay11 (k0_pay7 (iblk m c 1 t)) (k0_pay8 (iblk m c 1 t)) k0_pay9)
      (k0_pay12 (k0_pay6 (iblk m c 1 t)) (k0_pay7 (iblk m c 1 t)) (k0_pay8 (iblk m c 1 t)) k0_pay9) w g (ix3 0 r n)
    = dotRow (kscale (rowT (arow m c (grow t r)))) (kinv (rowT (arow m c (grow t r)))) (aG m c) (arow m c (grow t r))
      (fun k => wt (aP m c) (aS m c) k n) := by
  rw [pay15_apply, scale_apply, brow_eq, hw, hg]
  unfold dotRow
  refine congrArg (· * _) (Finset.sum_congr rfl fun k _ => ?_)
  rw [pay12_apply, brow_eq, clip_eq, scr_apply]

/-- Block `t` of the product. -/
theorem out4 (c : Dev nD) (t : Fin cfg0.N) (r : Fin 256) (n : Fin 512) : (outsAt0 m c t.val t.isLt).1 (ix3 0 r n)
    = dotRow (kscale (rowT (arow m c (grow t r)))) (kinv (rowT (arow m c (grow t r)))) (aG m c) (arow m c (grow t r))
      (fun k => wt (aP m c) (aS m c) k n) := by
  by_cases h0 : t.val % 12 = 0
  · rw [outsAt0_A m c t h0]
    frame_out
    refine out4_key m c t _ ?_ _ (blk0 m c t _) r n
    rw [View.readCov_eq_canon_ld _ _ _ (cover_halves _ _)]
    refine (congrArg (fun X => View.ld X (Rect.unit ![0, 0] ![4096, 512] inb_S4096x512_S4096x512_0_0)) (canon_scr m c t)).trans ?_
    funext j
    pointwise
  · rw [outsAt0_B m c t h0]
    frame_out
    refine out4_key m c t _ ?_ _ (blk0 m c t _) r n
    refine (Memref.IsWhole.read_unread (Memref.isWhole_whole _) _).trans ?_
    exact scratch m c _ _

/-- Block `t` of the scales. -/
theorem out6 (c : Dev nD) (t : Fin cfg0.N) (r : Fin 256) : (outsAt0 m c t.val t.isLt).2.2.1 (ix2 0 r)
    = kscale (rowT (arow m c (grow t r))) := by
  have key : View.canon (Val := Elt Ideal) (s := S1x256) (e := .f32)
      [⟨Rect.unit ![0, 128] ![1, 128] inb_S1x256_S1x128_0_128,
          k0_pay1 (k0_pay17 (k0_pay11 (k0_pay7 (iblk m c 1 t)) (k0_pay8 (iblk m c 1 t)) k0_pay9))⟩,
        ⟨Rect.unit ![0, 0] ![1, 128] inb_S1x256_S1x128_0_0,
          k0_pay16 (k0_pay11 (k0_pay7 (iblk m c 1 t)) (k0_pay8 (iblk m c 1 t)) k0_pay9)⟩] (ix2 0 r) = kscale (rowT (arow m c (grow t r))) := by
    rw [← brow_eq, ← scale_apply]
    generalize k0_pay11 (F := Ideal) (k0_pay7 (iblk m c 1 t)) (k0_pay8 (iblk m c 1 t)) k0_pay9 = s
    canon_tiles x h
    · obtain ⟨a, b, rfl⟩ : ∃ (a : Fin 1) (b : Fin 128), x = ix2 a b := ⟨x 0, x 1, eq_ix2 x⟩
      obtain rfl : a = 0 := Fin.ext (by omega)
      rw [pay17_apply]
      exact congrArg (fun a => s (ix2 a 0)) (Fin.ext h1.symm)
    · obtain ⟨a, b, rfl⟩ : ∃ (a : Fin 1) (b : Fin 128), x = ix2 a b := ⟨x 0, x 1, eq_ix2 x⟩
      obtain rfl : a = 0 := Fin.ext (by omega)
      rw [pay16_apply]
      exact congrArg (fun a => s (ix2 a 0)) (Fin.ext h1.symm)
  by_cases h0 : t.val % 12 = 0
  · rw [outsAt0_A m c t h0]
    frame_out
    exact key
  · rw [outsAt0_B m c t h0]
    frame_out
    exact key

/-! ## The arrays -/

/-- The codes. -/
theorem arr5 (c : Dev nD) : (dats m 0 c).arrAt 5 cfg0.N
    = (fun j => code (kinv (rowT (arow m c (j 1)))) (arow m c (j 1) (j 2)) : S1x3072x4096.Idx → EReal) := by
  refine (dats m 0 c).arrAt_eq_of_covers 5 _ (by decide +kernel) fun t hf y => ?_
  blk_simp
  rw [after0_5]
  obtain ⟨a, r, k, rfl⟩ : ∃ (a : Fin 1) (r : Fin 256) (k : Fin 4096), y = ix3 a r k := ⟨y 0, y 1, y 2, eq_ix3 y⟩
  obtain rfl : a = 0 := Fin.ext (by omega)
  have e : (win0_5.blk t).view.emb (ix3 0 r k) = ix3 0 (grow t r) k := by
    unfold grow
    blk_ext [idx t]
  rw [e]
  exact out5 m c t r k

/-- The product. -/
theorem arr4 (c : Dev nD) : (dats m 0 c).arrAt 4 cfg0.N
    = (fun j => dotRow (kscale (rowT (arow m c (j 1)))) (kinv (rowT (arow m c (j 1)))) (aG m c) (arow m c (j 1))
      (fun k => wt (aP m c) (aS m c) k (j 2)) : S1x3072x512.Idx → EReal) := by
  refine (dats m 0 c).arrAt_eq_of_covers 4 _ (by decide +kernel) fun t hf y => ?_
  blk_simp
  rw [after0_4]
  obtain ⟨a, r, n, rfl⟩ : ∃ (a : Fin 1) (r : Fin 256) (n : Fin 512), y = ix3 a r n := ⟨y 0, y 1, y 2, eq_ix3 y⟩
  obtain rfl : a = 0 := Fin.ext (by omega)
  have e : (win0_4.blk t).view.emb (ix3 0 r n) = ix3 0 (grow t r) n := by
    unfold grow
    blk_ext [idx t]
  rw [e]
  exact out4 m c t r n

/-- The scales. -/
theorem arr6 (c : Dev nD) : (dats m 0 c).arrAt 6 cfg0.N = (fun j => kscale (rowT (arow m c (j 1))) : S1x3072.Idx → EReal) := by
  refine (dats m 0 c).arrAt_eq_of_covers 6 _ (by decide +kernel) fun t hf y => ?_
  blk_simp
  rw [after0_6]
  obtain ⟨a, r, rfl⟩ : ∃ (a : Fin 1) (r : Fin 256), y = ix2 a r := ⟨y 0, y 1, eq_ix2 y⟩
  obtain rfl : a = 0 := Fin.ext (by omega)
  have e : (win0_6.blk t).view.emb (ix2 0 r) = ix2 0 (grow t r) := by
    unfold grow
    blk_ext [idx t]
  rw [e]
  exact out6 m c t r

end Cert.KernelIdeal.Blk

end
-- ==== Proof.Ref.lean ====
/-
  What the reference computes at one index, at the ideal instance.
-/
module

public import proofs.«01_k».proof.Proof.Gen.ReferenceIdeal.Value
public import Idealize.ShloMosaic.Lib.Pipeline.ValueKit
public import proofs.«01_k».proof.Proof.Spec

@[expose] public section

set_option maxRecDepth 16384

noncomputable section

namespace Cert.ReferenceIdeal.Blk

open Idealize.ShloMosaic Idealize.ShloMosaic.TcCoe Cert.ReferenceIdeal Cert.ReferenceIdeal.Gen Pointwise Cert.Lin

/-- One row of the activations. -/
def xrow (v0 : Vec Ideal S1x3072x4096 .bf16) (r : Fin 3072) : Fin 4096 → EReal := fun k => v0 (ix3 0 r k)

/-- The row's largest absolute value. -/
theorem rowmax_apply (v0 : Vec Ideal S1x3072x4096 .bf16) (r : Fin 3072) :
    multiReduction (F := Ideal) .maximumf [1] S3072 (absf (k0_pay3 v0)) 0xFF800000#32 reduces_S3072x4096_S3072 (.inl rfl) rfl (ix1 r)
      = amax (xrow v0 r) := by
  pointwise [k0_pay3]
  rw [ninf_f32]
  rfl

/-- The constant the reference divides by is the logarithm of two. -/
theorem ln2 : Named.named (F := Ideal) κ "ln2" (φ := .f32) 0x3F317218#32 = ((Real.log 2 : ℝ) : EReal) := by
  have h : κ "ln2" = some ((Real.log 2 : ℝ) : EReal) := rfl
  show (κ "ln2").getD (Ideal.ofBits .f32 0x3F317218#32) = _
  rw [h]
  rfl

/-- The exponent over any maximum and any value of the constant `log 2`, with the constants as patterns. -/
def rexpRaw (a t l : EReal) : EReal :=
  Scalar.select (Ideal.cmp .ogt a (Ideal.ofBits .f32 0x00000000#32))
    (Ideal.liftRound Int.floor (Ideal.div (Ideal.log t) l) + Ideal.ofBits .f32 0x3F800000#32) (Ideal.ofBits .f32 0x00000000#32)

/-- With the constants read, the exponent is `rexp`. -/
theorem rexpRaw_eq (a t : EReal) : rexpRaw a t ((Real.log 2 : ℝ) : EReal) = rexp a t := by
  unfold rexpRaw rexp
  rw [zero_f32, one_f32]

/-- The exponents of a vector of maxima. -/
def expV (a : FVec Ideal S3072x1 .f32) (l : EReal) : FVec Ideal S3072x1 .f32 :=
  select (cmpf .ogt a (broadcast S3072x1 (Scalar.ofBits .f32 0x00000000#32)))
    (addf (floor (divf (log (mulf a (broadcast S3072x1 (Scalar.ofBits .f32 0x3B124925#32)))) (broadcast S3072x1 l)))
      (broadcast S3072x1 (Scalar.ofBits .f32 0x3F800000#32)))
    (broadcast S3072x1 (Scalar.ofBits .f32 0x00000000#32))

/-- The exponents at an index. -/
theorem expV_apply (a : FVec Ideal S3072x1 .f32) (l : EReal) (j : S3072x1.Idx) : expV a l j = rexpRaw (a j) (a j * recip) l := rfl

/-- The printed exponents are those of the row maxima. -/
theorem pay4_eq (v0 : Vec Ideal S1x3072x4096 .bf16) : k0_pay4 v0
    = expV (shapeCast S3072x1 (multiReduction (F := Ideal) .maximumf [1] S3072 (absf (k0_pay3 v0)) 0xFF800000#32 reduces_S3072x4096_S3072 (.inl rfl) rfl)
      shapeCasts_S3072_S3072x1) (Named.named (F := Ideal) κ "ln2" (φ := .f32) 0x3F317218#32) := rfl

/-- A vector recast to a column, at an index. -/
theorem col_apply (v : FVec Ideal S3072 .f32) (r : Fin 3072) : shapeCast S3072x1 v shapeCasts_S3072_S3072x1 (ix2 r 0) = v (ix1 r) := by
  pointwise

/-- The row's exponent. -/
theorem pay4_apply (v0 : Vec Ideal S1x3072x4096 .bf16) (r : Fin 3072) :
    k0_pay4 v0 (ix2 r 0) = rexp (amax (xrow v0 r)) (rowT (xrow v0 r)) := by
  rw [pay4_eq, expV_apply, col_apply, rowmax_apply, ln2, rexpRaw_eq]
  unfold rowT
  exact Eq.refl _

/-- The powers of two at an index. -/
theorem exp2_apply (e : FVec Ideal S3072x1 .f32) (j : S3072x1.Idx) : exp2 e j = Ideal.exp2 (e j) := rfl

/-- The printed scales are the powers of two of the exponents. -/
theorem pay5_eq (v0 : Vec Ideal S1x3072x4096 .bf16) : k0_pay5 v0 = exp2 (k0_pay4 v0) := rfl

/-- The row's scale. -/
theorem pay5_apply (v0 : Vec Ideal S1x3072x4096 .bf16) (r : Fin 3072) :
    k0_pay5 v0 (ix2 r 0) = Ideal.exp2 (rexp (amax (xrow v0 r)) (rowT (xrow v0 r))) := by
  rw [pay5_eq, exp2_apply, pay4_apply]

/-- The codes over any reciprocal scales. -/
def codeV (x w : FVec Ideal S3072x4096 .f32) : FVec Ideal S3072x4096 .fp8e4m3 :=
  truncf .fp8e4m3 (minimumf (broadcast S3072x4096 (Scalar.ofBits .f32 0x43E00000#32))
    (maximumf (broadcast S3072x4096 (Scalar.ofBits .f32 0xC3E00000#32)) (mulf x w))) bitsLt_fp8e4m3_f32

/-- The codes at an index. -/
theorem codeV_apply (x w : FVec Ideal S3072x4096 .f32) (j : S3072x4096.Idx) : codeV x w j = code (w j) (x j) := by
  unfold code
  rw [← c448_f32, ← cm448_f32]
  rfl

/-- The printed codes are the clipped products with the reciprocal scales. -/
theorem pay6_eq (v0 : Vec Ideal S1x3072x4096 .bf16) : k0_pay6 v0
    = codeV (k0_pay3 v0) (broadcastTo S3072x4096 (exp2 (subf (broadcast S3072x1 (Scalar.ofBits .f32 0x00000000#32)) (k0_pay4 v0)))
      broadcasts_S3072x1_S3072x4096) := rfl

/-- A column spread over the lanes, at an index. -/
theorem lanes_apply (w : FVec Ideal S3072x1 .f32) (r : Fin 3072) (k : Fin 4096) :
    broadcastTo S3072x4096 w broadcasts_S3072x1_S3072x4096 (ix2 r k) = w (ix2 r 0) := by
  pointwise

/-- The reciprocal scales at an index. -/
theorem inv_apply (e : FVec Ideal S3072x1 .f32) (j : S3072x1.Idx) :
    exp2 (subf (broadcast S3072x1 (Scalar.ofBits .f32 0x00000000#32)) e) j = Ideal.exp2 (0 - e j) := by
  rw [← zero_f32]
  rfl

/-- The merged activations at an index. -/
theorem pay3_apply (v0 : Vec Ideal S1x3072x4096 .bf16) (r : Fin 3072) (k : Fin 4096) : k0_pay3 v0 (ix2 r k) = xrow v0 r k := by
  pointwise [k0_pay3]
  rfl

/-- The codes. -/
theorem pay6_apply (v0 : Vec Ideal S1x3072x4096 .bf16) (r : Fin 3072) (k : Fin 4096) :
    k0_pay6 v0 (ix2 r k) = code (Ideal.exp2 (0 - rexp (amax (xrow v0 r)) (rowT (xrow v0 r)))) (xrow v0 r k) := by
  rw [pay6_eq, codeV_apply, lanes_apply, inv_apply, pay4_apply, pay3_apply]

/-- The decoded weights. -/
theorem dec_lo_apply (p : Vec Ideal S4096x256 .i8) (j : S4096x256.Idx) :
    k0_pay12 (F := Ideal) (k0_pay8 (F := Ideal) p) (k0_pay10 (F := Ideal) p) (k0_pay11 (F := Ideal) p) j = refDec (nibLo (p j)) := rfl

/-- The decoded high weights: the reference's own expression. -/
def hiV (p : IVec S4096x256 32) : FVec Ideal S4096x256 .bf16 :=
  k0_pay12 (F := Ideal) p (k0_pay13 p) (andi p (broadcast S4096x256 2#32))

/-- The decoded high half-bytes at an index. -/
theorem hiV_apply (p : Vec Ideal S4096x256 .i8) (j : S4096x256.Idx) : hiV (k0_pay9 (F := Ideal) p) j = refDec (nibHi (p j)) := rfl

/-- The scaled product, over any codes and any halves of the weights. -/
theorem pay16_half (s : FVec Ideal S3072x1 .f32) (q : FVec Ideal S3072x4096 .fp8e4m3) (v34 : IVec S4096x256 32) (lo : FVec Ideal S4096x256 .bf16)
    (b : Vec Ideal S256x512 .fp8e4m3) (g : Elt Ideal .f32) (r : Fin 3072) (n : Fin 512) :
    k0_pay16 s q v34 lo (k0_pay13 v34) (k0_pay14 v34) (k0_pay15 v34) b g (ix3 0 r n)
      = (∑ k : Fin 4096, q (ix2 r k) * ((if h : n.val < 256 then lo (ix2 k ⟨n.val, h⟩) else hiV v34 (ix2 k ⟨n.val - 256, by omega⟩))
          * b (ix2 ⟨k.val / 16, by omega⟩ n))) * (s (ix2 r 0) * g) := by
  have e : k0_pay16 s q v34 lo (k0_pay13 v34) (k0_pay14 v34) (k0_pay15 v34) b g
      = shapeCast S1x3072x512 (truncf .bf16 (mulf (matmul dot_S3072x4096_S4096x512_S3072x512_1_0_0_1_n_n none (extf .bf16 q bitsLt_fp8e4m3_bf16)
          (shapeCast S4096x512 (mulf (shapeCast S256x16x512 (concatenate S4096x512 1 [⟨S4096x256, lo⟩, ⟨S4096x256, hiV v34⟩]
              concatenates_S4096x256_S4096x256_S4096x512_d1) shapeCasts_S4096x512_S256x16x512)
            (broadcastTo S256x16x512 (shapeCast S256x1x512 (extf .bf16 b bitsLt_fp8e4m3_bf16) shapeCasts_S256x512_S256x1x512)
              broadcasts_S256x1x512_S256x16x512)) shapeCasts_S256x16x512_S4096x512) (constant S3072x512 .f32 0x00000000#32))
          (broadcastTo S3072x512 (mulf s (broadcast S3072x1 g)) broadcasts_S3072x1_S3072x512)) bitsLt_bf16_f32)
        shapeCasts_S3072x512_S1x3072x512 := rfl
  rw [e]
  generalize hiV v34 = hi
  pointwise

/-- The scaled product. -/
theorem pay16_apply (s : FVec Ideal S3072x1 .f32) (q : FVec Ideal S3072x4096 .fp8e4m3) (p : Vec Ideal S4096x256 .i8) (lo : FVec Ideal S4096x256 .bf16)
    (b : Vec Ideal S256x512 .fp8e4m3) (g : Elt Ideal .f32) (hlo : ∀ j, lo j = refDec (nibLo (p j))) (r : Fin 3072) (n : Fin 512) :
    k0_pay16 s q (k0_pay9 (F := Ideal) p) lo (k0_pay13 (k0_pay9 (F := Ideal) p)) (k0_pay14 (k0_pay9 (F := Ideal) p)) (k0_pay15 (k0_pay9 (F := Ideal) p)) b g (ix3 0 r n)
      = (∑ k, q (ix2 r k) * wt p b k n) * (s (ix2 r 0) * g) := by
  rw [pay16_half]
  simp only [hlo, hiV_apply]
  rfl

/-- The stored codes. -/
theorem pay1_apply (v : FVec Ideal S3072x4096 .fp8e4m3) (r : Fin 3072) (k : Fin 4096) : k0_pay1 v (ix3 0 r k) = v (ix2 r k) := by
  pointwise [k0_pay1]

/-- The stored scales. -/
theorem pay2_apply (v : FVec Ideal S3072x1 .f32) (r : Fin 3072) : k0_pay2 v (ix2 0 r) = v (ix2 r 0) := by
  pointwise [k0_pay2]

end Cert.ReferenceIdeal.Blk

end
-- ==== Proof.RefArray.lean ====
/-
  What the reference leaves in its three results, over the four arguments.
-/
module

public import proofs.«01_k».proof.Proof.Ref

@[expose] public section

set_option maxRecDepth 16384

noncomputable section

namespace Cert.ReferenceIdeal.Blk

open Idealize.ShloMosaic Idealize.ShloMosaic.TcCoe Idealize.SL.Sem Cert.ReferenceIdeal Cert.ReferenceIdeal.Gen Pointwise Cert.Lin

variable (m : (ℓ : Loc nD τ sig) → Buf (Elt Ideal) ℓ)

/-- The activations, packed weights, block scales and global scale on a device. -/
def aX (c : Dev nD) : S1x3072x4096.Idx → EReal := m ((c : Thread nD τ).loc main_arg0)
/-- The packed weights on a device. -/
def aP (c : Dev nD) : S4096x256.Idx → BitVec 8 := m ((c : Thread nD τ).loc main_arg1)
/-- The block scales on a device. -/
def aS (c : Dev nD) : S256x512.Idx → EReal := m ((c : Thread nD τ).loc main_arg2)
/-- The global scale on a device. -/
def aG (c : Dev nD) : EReal := m ((c : Thread nD τ).loc main_arg3) (fun a => a.elim0)

/-- A row of activations. -/
def arow (c : Dev nD) (i : Fin 3072) : Fin 4096 → EReal := fun k => aX m c (ix3 0 i k)

/-- The one block of every window is the array. -/
theorem idx : ∀ t : Fin cfg0.N, win0_0.index t = ![0, 0] ∧ win0_1.index t = ![0, 0, 0] ∧ win0_2.index t = ![0, 0]
    ∧ win0_3.index t = ![0, 0] := by
  decide +kernel

/-- The block of activations is the array. -/
theorem blk1 (c : Dev nD) (t : Fin cfg0.N) : iblk m c 1 t = aX m c := by
  unfold aX
  blk_ext! [iblk, V_main_arg0, idx t]

/-- The block of packed weights is the array. -/
theorem blk2 (c : Dev nD) (t : Fin cfg0.N) : iblk m c 2 t = aP m c := by
  unfold aP
  blk_ext! [iblk, V_main_arg1, idx t]

/-- The block of block scales is the array. -/
theorem blk3 (c : Dev nD) (t : Fin cfg0.N) : iblk m c 3 t = aS m c := by
  unfold aS
  blk_ext! [iblk, V_main_arg2, idx t]

/-- The block of the global scale is the argument. -/
theorem blk0 (c : Dev nD) (t : Fin cfg0.N) (j : S1x1.Idx) : iblk m c 0 t j = aG m c := by
  blk_simp [iblk]
  show shapeCast S1x1 (m ((c : Thread nD τ).loc main_arg3)) shapeCasts_S_S1x1 _ = _
  exact congrArg (m ((c : Thread nD τ).loc main_arg3)) (funext fun a => a.elim0)

/-- The reference's scale and reciprocal scale of a row. -/
def rscale (v : Fin 4096 → EReal) : EReal := Ideal.exp2 (rexp (amax v) (rowT v))
/-- The reference's reciprocal scale of a row. -/
def rinv (v : Fin 4096 → EReal) : EReal := Ideal.exp2 (0 - rexp (amax v) (rowT v))

/-- A row of the argument. -/
theorem xrow_eq (c : Dev nD) (i : Fin 3072) : xrow (aX m c) i = arow m c i := rfl

/-- The stored codes, over any block that is the argument. -/
theorem key5 (c : Dev nD) (x : Vec Ideal S1x3072x4096 .bf16) (hx : x = aX m c) (j : S1x3072x4096.Idx) :
    k0_pay1 (k0_pay6 x) j = code (rinv (arow m c (j 1))) (arow m c (j 1) (j 2)) := by
  obtain ⟨a, r, k, rfl⟩ : ∃ (a : Fin 1) (r : Fin 3072) (k : Fin 4096), j = ix3 a r k := ⟨j 0, j 1, j 2, eq_ix3 j⟩
  obtain rfl : a = 0 := Fin.ext (by omega)
  rw [pay1_apply, pay6_apply, hx, xrow_eq]
  exact Eq.refl _

/-- The stored scales, over any block that is the argument. -/
theorem key6 (c : Dev nD) (x : Vec Ideal S1x3072x4096 .bf16) (hx : x = aX m c) (j : S1x3072.Idx) :
    k0_pay2 (k0_pay5 x) j = rscale (arow m c (j 1)) := by
  obtain ⟨a, r, rfl⟩ : ∃ (a : Fin 1) (r : Fin 3072), j = ix2 a r := ⟨j 0, j 1, eq_ix2 j⟩
  obtain rfl : a = 0 := Fin.ext (by omega)
  rw [pay2_apply, pay5_apply, hx, xrow_eq]
  exact Eq.refl _

/-- The stored product, over any blocks that are the arguments. -/
theorem key4 (c : Dev nD) (x : Vec Ideal S1x3072x4096 .bf16) (hx : x = aX m c) (p : Vec Ideal S4096x256 .i8) (hp : p = aP m c)
    (s : Vec Ideal S256x512 .fp8e4m3) (hs : s = aS m c) (g : Elt Ideal .f32) (hg : g = aG m c) (j : S1x3072x512.Idx) :
    k0_pay16 (k0_pay5 x) (k0_pay6 x) (k0_pay9 (F := Ideal) p) (k0_pay12 (k0_pay8 (F := Ideal) p) (k0_pay10 (F := Ideal) p) (k0_pay11 (F := Ideal) p))
      (k0_pay13 (k0_pay9 (F := Ideal) p)) (k0_pay14 (k0_pay9 (F := Ideal) p)) (k0_pay15 (k0_pay9 (F := Ideal) p)) s g j
    = dotRow (rscale (arow m c (j 1))) (rinv (arow m c (j 1))) (aG m c) (arow m c (j 1)) (fun k => wt (aP m c) (aS m c) k (j 2)) := by
  obtain ⟨a, r, n, rfl⟩ : ∃ (a : Fin 1) (r : Fin 3072) (n : Fin 512), j = ix3 a r n := ⟨j 0, j 1, j 2, eq_ix3 j⟩
  obtain rfl : a = 0 := Fin.ext (by omega)
  rw [pay16_apply _ _ _ _ _ _ (dec_lo_apply p), pay5_apply, hp, hs, hg]
  simp only [pay6_apply]
  rw [hx, xrow_eq]
  exact Eq.refl _

/-- The codes. -/
theorem arr5 (c : Dev nD) : (dats m 0 c).arrAt 5 cfg0.N
    = (fun j => code (rinv (arow m c (j 1))) (arow m c (j 1) (j 2)) : S1x3072x4096.Idx → EReal) := by
  refine (dats m 0 c).arrAt_eq_of_after_last 5 t0_0 (by decide +kernel) _ fun j => ?_
  blk_simp
  rw [after0_5]
  unfold outsAt0
  frame_out
  exact key5 m c _ ((Memref.IsWhole.read_unread (Memref.isWhole_whole _) _).trans (blk1 m c _)) j

/-- The product. -/
theorem arr4 (c : Dev nD) : (dats m 0 c).arrAt 4 cfg0.N
    = (fun j => dotRow (rscale (arow m c (j 1))) (rinv (arow m c (j 1))) (aG m c) (arow m c (j 1))
      (fun k => wt (aP m c) (aS m c) k (j 2)) : S1x3072x512.Idx → EReal) := by
  refine (dats m 0 c).arrAt_eq_of_after_last 4 t0_0 (by decide +kernel) _ fun j => ?_
  blk_simp
  rw [after0_4]
  unfold outsAt0
  frame_out
  refine key4 m c _ ((Memref.IsWhole.read_unread (Memref.isWhole_whole _) _).trans (blk1 m c _))
    _ ((Memref.IsWhole.read_unread (Memref.isWhole_whole _) _).trans (blk2 m c _))
    _ ((Memref.IsWhole.read_unread (Memref.isWhole_whole _) _).trans (blk3 m c _)) _ ?_ j
  exact (congrFun (Memref.IsWhole.read_unread (Memref.isWhole_whole _) _) _).trans (blk0 m c _ _)

/-- The scales. -/
theorem arr6 (c : Dev nD) : (dats m 0 c).arrAt 6 cfg0.N = (fun j => rscale (arow m c (j 1)) : S1x3072.Idx → EReal) := by
  refine (dats m 0 c).arrAt_eq_of_after_last 6 t0_0 (by decide +kernel) _ fun j => ?_
  blk_simp
  rw [after0_6]
  unfold outsAt0
  frame_out
  exact key6 m c _ ((Memref.IsWhole.read_unread (Memref.isWhole_whole _) _).trans (blk1 m c _)) j

end Cert.ReferenceIdeal.Blk

end
-- ==== Proof.Pre.lean ====
/-
  What the precondition says of each row of activations.
-/
module

public import proofs.«01_k».proof.Proof.Gen.Pre_normal
public import Idealize.ShloMosaic.Lib.Pointwise
public import proofs.«01_k».proof.Proof.Spec

@[expose] public section

set_option maxRecDepth 16384

noncomputable section

namespace Cert.Pre_normal.Row

open Idealize.ShloMosaic Idealize.SL.Sem Cert.Pre_normal Cert.Pre_normal.Gen Pointwise Cert.Lin

/-- The printed maximum of a row, times the printed reciprocal, is `rowT`. -/
theorem max_apply (x : FVec Ideal S1x3072x4096 .f32) (r : Fin 3072) :
    Host.reduce (u := S_) (FloatOps.maximumf (F := Ideal) (φ := .f32)) (Host.absf x) (constant S_ .f32 0xFF800000#32)
      reducesTo_S1x3072x4096_S1x3072_d2 h_S_ (ix2 0 r) = amax fun k => x (ix3 0 r k) := by
  unfold amax
  rw [← ninf_f32]
  pointwise
  rfl

/-- A disjunction of one comparison and a conjunction of two, as a word that is one. -/
theorem bits (p q r : Prop) [Decidable p] [Decidable q] [Decidable r]
    (h : IntOp.ori (BitVec.ofBool (decide p)) (IntOp.andi (BitVec.ofBool (decide q)) (BitVec.ofBool (decide r))) = 1#1) :
    p ∨ (q ∧ r) := by
  by_cases h1 : p <;> by_cases h2 : q <;> by_cases h3 : r <;> simp_all [IntOp.ori, IntOp.andi]

/-- The printed comparisons of the rows' values over 448. -/
def words (v : FVec Ideal S1x3072 .f32) : IVec S1x3072 1 :=
  ori (cmpf .oeq (mulf v (broadcastInDim S1x3072 ![] bcast_S_S1x3072 (constant S_ .f32 0x3B124925#32)))
      (broadcastInDim S1x3072 ![] bcast_S_S1x3072 (constant S_ .f32 0x00000000#32)))
    (andi (cmpf .oge (mulf v (broadcastInDim S1x3072 ![] bcast_S_S1x3072 (constant S_ .f32 0x3B124925#32)))
        (broadcastInDim S1x3072 ![] bcast_S_S1x3072 (constant S_ .f32 0x00800000#32)))
      (cmpf .olt (mulf v (broadcastInDim S1x3072 ![] bcast_S_S1x3072 (constant S_ .f32 0x3B124925#32)))
        (broadcastInDim S1x3072 ![] bcast_S_S1x3072 (constant S_ .f32 0x7E800000#32))))

/-- Where they hold, the value over 448 is zero or a normal number below 2 ^ 126. -/
theorem words_apply (v : FVec Ideal S1x3072 .f32) (r : Fin 3072) (h : words v (ix2 0 r) = 1#1) :
    v (ix2 0 r) * recip = 0 ∨ (Ideal.ofBits .f32 0x00800000#32 ≤ v (ix2 0 r) * recip
      ∧ v (ix2 0 r) * recip < Ideal.ofBits .f32 0x7E800000#32) := by
  unfold words at h
  unfold recip
  pointwise at h
  exact bits _ _ _ h

/-- The printed precondition is these comparisons of the rows' maxima. -/
theorem fn_eq (x : FVec Ideal S1x3072x4096 .bf16) (p : IVec S4096x256 8) (s : FVec Ideal S256x512 .fp8e4m3) (g : FVec Ideal S_ .f32) :
    fn (F := Ideal) x p s g = words (Host.reduce (u := S_) (FloatOps.maximumf (F := Ideal) (φ := .f32)) (Host.absf (extf .f32 x bitsLt_bf16_f32))
      (constant S_ .f32 0xFF800000#32) reducesTo_S1x3072x4096_S1x3072_d2 h_S_) := by
  unfold fn words
  exact Eq.refl _

/-- A row's largest magnitude over 448 is zero or a normal number below 2 ^ 126. -/
theorem row (x : FVec Ideal S1x3072x4096 .bf16) (p : IVec S4096x256 8) (s : FVec Ideal S256x512 .fp8e4m3) (g : FVec Ideal S_ .f32)
    (h : fn (F := Ideal) x p s g = fun _ => 1#1) (r : Fin 3072) :
    rowT (fun k => x (ix3 0 r k)) = 0 ∨ (Ideal.ofBits .f32 0x00800000#32 ≤ rowT (fun k => x (ix3 0 r k))
      ∧ rowT (fun k => x (ix3 0 r k)) < Ideal.ofBits .f32 0x7E800000#32) := by
  have e := words_apply _ r (congrFun ((fn_eq x p s g).symm.trans h) (ix2 0 r))
  rw [max_apply] at e
  exact e

end Cert.Pre_normal.Row

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Pre_normal
public import proofs.«01_k».proof.Proof.Block
public import proofs.«01_k».proof.Proof.RefArray
public import proofs.«01_k».proof.Proof.Pre
public import Idealize.ShloMosaic.Adequacy
public import Idealize.ShloMosaic.Init

@[expose] public section

noncomputable section

namespace Cert.Proof

open Idealize.ShloMosaic Idealize.SL.Sem Cert.Lin

/-- The kernel's two scales of every row are the reference's, under the precondition. -/
theorem scales (m : (ℓ : Loc Cert.KernelIdeal.nD Cert.KernelIdeal.τ Cert.KernelIdeal.sig) → Buf (Elt Ideal) ℓ)
    (h : Cert.Pre_KernelIdeal_normal m) (c : Dev Cert.KernelIdeal.nD) (r : Fin 3072) :
    kscale (rowT (Cert.KernelIdeal.Blk.arow m c r)) = Cert.ReferenceIdeal.Blk.rscale (Cert.KernelIdeal.Blk.arow m c r)
      ∧ kinv (rowT (Cert.KernelIdeal.Blk.arow m c r)) = Cert.ReferenceIdeal.Blk.rinv (Cert.KernelIdeal.Blk.arow m c r) :=
  row_scales _ (Cert.Pre_normal.Row.row _ _ _ _ (h c) r)

/-- From memories that agree on the four arguments the kernel and the reference end with equal products, equal codes and
    equal scales, and with their arguments unchanged. -/
theorem equal : Cert.algebraic_KernelIdeal_ReferenceIdeal_pre_normal := by
  intro m g m' g' hp ha
  have eX : ∀ c, Cert.ReferenceIdeal.Blk.aX m' c = Cert.KernelIdeal.Blk.aX m c := fun c => (ha c).1
  have eP : ∀ c, Cert.ReferenceIdeal.Blk.aP m' c = Cert.KernelIdeal.Blk.aP m c := fun c => (ha c).2.1
  have eS : ∀ c, Cert.ReferenceIdeal.Blk.aS m' c = Cert.KernelIdeal.Blk.aS m c := fun c => (ha c).2.2.1
  have eG : ∀ c, Cert.ReferenceIdeal.Blk.aG m' c = Cert.KernelIdeal.Blk.aG m c := fun c => congrFun (ha c).2.2.2 _
  have eR : ∀ c r, Cert.ReferenceIdeal.Blk.arow m' c r = Cert.KernelIdeal.Blk.arow m c r :=
    fun c r => funext fun k => congrFun (eX c) _
  have e4 : ∀ c r w, dotRow (Cert.ReferenceIdeal.Blk.rscale (Cert.ReferenceIdeal.Blk.arow m' c r))
        (Cert.ReferenceIdeal.Blk.rinv (Cert.ReferenceIdeal.Blk.arow m' c r)) (Cert.KernelIdeal.Blk.aG m c) (Cert.ReferenceIdeal.Blk.arow m' c r) w
      = dotRow (kscale (rowT (Cert.KernelIdeal.Blk.arow m c r))) (kinv (rowT (Cert.KernelIdeal.Blk.arow m c r)))
        (Cert.KernelIdeal.Blk.aG m c) (Cert.KernelIdeal.Blk.arow m c r) w := by
    intro c r w
    rw [eR, ← (scales m hp c r).1, ← (scales m hp c r).2]
  have e5 : ∀ c r k, code (Cert.ReferenceIdeal.Blk.rinv (Cert.ReferenceIdeal.Blk.arow m' c r)) (Cert.ReferenceIdeal.Blk.arow m' c r k)
      = code (kinv (rowT (Cert.KernelIdeal.Blk.arow m c r))) (Cert.KernelIdeal.Blk.arow m c r k) := by
    intro c r k
    rw [eR, ← (scales m hp c r).2]
  have e6 : ∀ c r, Cert.ReferenceIdeal.Blk.rscale (Cert.ReferenceIdeal.Blk.arow m' c r) = kscale (rowT (Cert.KernelIdeal.Blk.arow m c r)) := by
    intro c r
    rw [eR, ← (scales m hp c r).1]
  refine ⟨fun c => (Cert.KernelIdeal.Gen.dats m 0 c).arrAt 4 Cert.KernelIdeal.cfg0.N,
    fun c => (Cert.KernelIdeal.Gen.dats m 0 c).arrAt 5 Cert.KernelIdeal.cfg0.N,
    fun c => (Cert.KernelIdeal.Gen.dats m 0 c).arrAt 6 Cert.KernelIdeal.cfg0.N,
    Cert.KernelIdeal.Value.run_blocks m g, ?_⟩
  refine (θ_run _ _ _).mono (fun r h c => ?_) (Cert.ReferenceIdeal.Value.run_blocks m' g')
  obtain ⟨h4, h5, h6, k⟩ := h c
  refine ⟨h4.trans ?_, h5.trans ?_, h6.trans ?_, k⟩
  · refine (Cert.ReferenceIdeal.Blk.arr4 m' c).trans (.trans ?_ (Cert.KernelIdeal.Blk.arr4 m c).symm)
    rw [eP, eS, eG]
    exact funext fun j => e4 c (j 1) fun k => wt (Cert.KernelIdeal.Blk.aP m c) (Cert.KernelIdeal.Blk.aS m c) k (j 2)
  · refine (Cert.ReferenceIdeal.Blk.arr5 m' c).trans (.trans ?_ (Cert.KernelIdeal.Blk.arr5 m c).symm)
    exact funext fun j => e5 c (j 1) (j 2)
  · refine (Cert.ReferenceIdeal.Blk.arr6 m' c).trans (.trans ?_ (Cert.KernelIdeal.Blk.arr6 m c).symm)
    exact funext fun j => e6 c (j 1)

/-- All the claims: the three programs run to the end and leave their arguments, and the value claim `equal`. -/
theorem claim : Cert.Claim := ⟨Cert.Kernel.Gen.facts, Cert.KernelIdeal.Gen.facts, Cert.ReferenceIdeal.Gen.facts, Cert.Pre_normal.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, equal⟩

end Cert.Proof

end
